-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_finite [hPre_weights_finite : Cert.Pre_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_finite [hPre_weights_finite : Cert.Pre_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_weights_finite [hKernelIdeal : Cert.KernelIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_weights_finite [hReferenceIdeal : Cert.ReferenceIdeal.Facts] [hPre_weights_finite : Cert.Pre_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "two_over_pi" .f32 0x3F22F983#32 ((8388608 / 13176795 : ℝ) : EReal)

def algebraic_KernelIdeal_ReferenceIdeal_pre_weights_finite [hKernelIdeal : Cert.KernelIdeal.Facts] [hReferenceIdeal : Cert.ReferenceIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_weights_finite : Cert.Pre_weights_finite.Facts),
    quiescent_Kernel (hKernel := hKernel)
    ∧ quiescent_KernelIdeal (hKernelIdeal := hKernelIdeal)
    ∧ quiescent_KernelIdeal_pre_weights_finite (hKernelIdeal := hKernelIdeal) (hPre_weights_finite := hPre_weights_finite)
    ∧ quiescent_ReferenceIdeal (hReferenceIdeal := hReferenceIdeal)
    ∧ quiescent_ReferenceIdeal_pre_weights_finite (hReferenceIdeal := hReferenceIdeal) (hPre_weights_finite := hPre_weights_finite)
    ∧ preserves_Kernel_KernelIdeal
    ∧ algebraic_KernelIdeal_ReferenceIdeal_pre_weights_finite (hKernelIdeal := hKernelIdeal) (hReferenceIdeal := hReferenceIdeal) (hPre_weights_finite := hPre_weights_finite)
-- ==== Pre_weights_finite.lean ====
abbrev S524288x15x4 : Shape := ⟨3, ![524288, 15, 4]⟩
abbrev S4x24 : Shape := ⟨2, ![4, 24]⟩
abbrev S24 : Shape := ⟨1, ![24]⟩
abbrev S24x24 : Shape := ⟨2, ![24, 24]⟩
abbrev S24x3 : Shape := ⟨2, ![24, 3]⟩
abbrev S3 : Shape := ⟨1, ![3]⟩
abbrev S12x24 : Shape := ⟨2, ![12, 24]⟩
abbrev S24x12 : Shape := ⟨2, ![24, 12]⟩
abbrev S12 : Shape := ⟨1, ![12]⟩
abbrev S4 : Shape := ⟨1, ![4]⟩
abbrev S2 : Shape := ⟨1, ![2]⟩
abbrev S96x24 : Shape := ⟨2, ![96, 24]⟩
abbrev S24x4 : Shape := ⟨2, ![24, 4]⟩
abbrev S_ : Shape := ⟨0, ![]⟩

class Facts : Prop where
  bcast_S_S24x12 : S_.BroadcastsInDim S24x12 (![] : Fin 0 → Fin S24x12.rank)
  reducesTo_S24x12_S_d0_1 : S24x12.ReducesTo [0, 1] S_
  h_S_ : 0 < S_.numel
  bcast_S_S96x24 : S_.BroadcastsInDim S96x24 (![] : Fin 0 → Fin S96x24.rank)
  reducesTo_S96x24_S_d0_1 : S96x24.ReducesTo [0, 1] S_
  bcast_S_S4 : S_.BroadcastsInDim S4 (![] : Fin 0 → Fin S4.rank)
  reducesTo_S4_S_d0 : S4.ReducesTo [0] S_
  bcast_S_S2 : S_.BroadcastsInDim S2 (![] : Fin 0 → Fin S2.rank)
  reducesTo_S2_S_d0 : S2.ReducesTo [0] S_

variable [Facts]

def fn_part1 {F : FTy → Type} [FloatOps F] (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  main_v18

def fn {F : FTy → Type} [FloatOps F] (main_arg0 : FVec F S524288x15x4 .f32) (main_arg1 : FVec F S4x24 .f32) (main_arg2 : FVec F S24 .f32) (main_arg3 : FVec F S24x24 .f32) (main_arg4 : FVec F S24 .f32) (main_arg5 : FVec F S24x3 .f32) (main_arg6 : FVec F S3 .f32) (main_arg7 : FVec F S12x24 .f32) (main_arg8 : FVec F S24 .f32) (main_arg9 : FVec F S24x12 .f32) (main_arg10 : FVec F S12 .f32) (main_arg11 : FVec F S4 .f32) (main_arg12 : FVec F S2 .f32) (main_arg13 : FVec F S96x24 .f32) (main_arg14 : FVec F S24 .f32) (main_arg15 : FVec F S24x4 .f32) (main_arg16 : FVec F S4 .f32) : IVec S_ 1 :=
  let main_v0 : FVec F S24x12 .f32 := Host.absf main_arg9
  let main_cst : FVec F S_ .f32 := constant S_ .f32 0x7F800000#32
  let main_v1 : FVec F S24x12 .f32 := broadcastInDim S24x12 ![] bcast_S_S24x12 main_cst
  let main_v2 : IVec S24x12 1 := cmpf .olt main_v0 main_v1
  let main_c : IVec S_ 1 := constantI S_ 1 1#1
  let main_v3 : IVec S_ 1 := (fun x v => Host.reduce IntOp.andi x v reducesTo_S24x12_S_d0_1 h_S_) main_v2 main_c
  let main_v4 : FVec F S96x24 .f32 := Host.absf main_arg13
  let main_cst_0 : FVec F S_ .f32 := constant S_ .f32 0x7F800000#32
  let main_v5 : FVec F S96x24 .f32 := broadcastInDim S96x24 ![] bcast_S_S96x24 main_cst_0
  let main_v6 : IVec S96x24 1 := cmpf .olt main_v4 main_v5
  let main_c_1 : IVec S_ 1 := constantI S_ 1 1#1
  let main_v7 : IVec S_ 1 := (fun x v => Host.reduce IntOp.andi x v reducesTo_S96x24_S_d0_1 h_S_) main_v6 main_c_1
  let main_v8 : IVec S_ 1 := andi main_v3 main_v7
  let main_v9 : FVec F S4 .f32 := Host.absf main_arg11
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S2 .f32 := Host.absf main_arg12
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_v13 main_v16
-- ==== Kernel.lean ====
abbrev S524288x15x4 : Shape := ⟨3, ![524288, 15, 4]⟩
abbrev S4x24 : Shape := ⟨2, ![4, 24]⟩
abbrev S24 : Shape := ⟨1, ![24]⟩
abbrev S24x24 : Shape := ⟨2, ![24, 24]⟩
abbrev S24x3 : Shape := ⟨2, ![24, 3]⟩
abbrev S3 : Shape := ⟨1, ![3]⟩
abbrev S12x24 : Shape := ⟨2, ![12, 24]⟩
abbrev S24x12 : Shape := ⟨2, ![24, 12]⟩
abbrev S12 : Shape := ⟨1, ![12]⟩
abbrev S4 : Shape := ⟨1, ![4]⟩
abbrev S2 : Shape := ⟨1, ![2]⟩
abbrev S96x24 : Shape := ⟨2, ![96, 24]⟩
abbrev S24x4 : Shape := ⟨2, ![24, 4]⟩
abbrev S4x4 : Shape := ⟨2, ![4, 4]⟩
abbrev S2x2 : Shape := ⟨2, ![2, 2]⟩
abbrev S96x8 : Shape := ⟨2, ![96, 8]⟩
abbrev S96x3 : Shape := ⟨2, ![96, 3]⟩
abbrev S524288x1x4 : Shape := ⟨3, ![524288, 1, 4]⟩
abbrev S524288x4 : Shape := ⟨2, ![524288, 4]⟩
abbrev S4x524288 : Shape := ⟨2, ![4, 524288]⟩
abbrev S_ : Shape := ⟨0, ![]⟩
abbrev S1 : Shape := ⟨1, ![1]⟩
abbrev S1x4 : Shape := ⟨2, ![1, 4]⟩
abbrev S4x1 : Shape := ⟨2, ![4, 1]⟩
abbrev S1x2 : Shape := ⟨2, ![1, 2]⟩
abbrev S2x1 : Shape := ⟨2, ![2, 1]⟩
abbrev S96x96 : Shape := ⟨2, ![96, 96]⟩
abbrev S4x1x4x1 : Shape := ⟨4, ![4, 1, 4, 1]⟩
abbrev S1x24x1x24 : Shape := ⟨4, ![1, 24, 1, 24]⟩
abbrev S4x24x4x24 : Shape := ⟨4, ![4, 24, 4, 24]⟩
abbrev S48x48 : Shape := ⟨2, ![48, 48]⟩
abbrev S2x1x2x1 : Shape := ⟨4, ![2, 1, 2, 1]⟩
abbrev S1x48x1x48 : Shape := ⟨4, ![1, 48, 1, 48]⟩
abbrev S2x48x2x48 : Shape := ⟨4, ![2, 48, 2, 48]⟩
abbrev S8x8 : Shape := ⟨2, ![8, 8]⟩
abbrev S8x1x8x1 : Shape := ⟨4, ![8, 1, 8, 1]⟩
abbrev S1x12x1x24 : Shape := ⟨4, ![1, 12, 1, 24]⟩
abbrev S8x12x8x24 : Shape := ⟨4, ![8, 12, 8, 24]⟩
abbrev S8x12x192 : Shape := ⟨3, ![8, 12, 192]⟩
abbrev S96x8x12 : Shape := ⟨3, ![96, 8, 12]⟩
abbrev S96x192 : Shape := ⟨2, ![96, 192]⟩
abbrev S192x96 : Shape := ⟨2, ![192, 96]⟩
abbrev S1x24 : Shape := ⟨2, ![1, 24]⟩
abbrev S8x24 : Shape := ⟨2, ![8, 24]⟩
abbrev S192 : Shape := ⟨1, ![192]⟩
abbrev S192x1 : Shape := ⟨2, ![192, 1]⟩
abbrev S1x24x1x12 : Shape := ⟨4, ![1, 24, 1, 12]⟩
abbrev S8x24x8x12 : Shape := ⟨4, ![8, 24, 8, 12]⟩
abbrev S192x24 : Shape := ⟨2, ![192, 24]⟩
abbrev S24x192 : Shape := ⟨2, ![24, 192]⟩
abbrev S1x12 : Shape := ⟨2, ![1, 12]⟩
abbrev S8x12 : Shape := ⟨2, ![8, 12]⟩
abbrev S96 : Shape := ⟨1, ![96]⟩
abbrev S24x1 : Shape := ⟨2, ![24, 1]⟩
abbrev S3x24 : Shape := ⟨2, ![3, 24]⟩
abbrev S3x1 : Shape := ⟨2, ![3, 1]⟩
abbrev S4x2048 : Shape := ⟨2, ![4, 2048]⟩
abbrev S24x2048 : Shape := ⟨2, ![24, 2048]⟩
abbrev S3x2048 : Shape := ⟨2, ![3, 2048]⟩
abbrev S1x2048 : Shape := ⟨2, ![1, 2048]⟩
abbrev S8x2048 : Shape := ⟨2, ![8, 2048]⟩
abbrev S96x2048 : Shape := ⟨2, ![96, 2048]⟩
abbrev S192x2048 : Shape := ⟨2, ![192, 2048]⟩

abbrev nBuf : Space → Nat
  | .hbm => 161
  | .vmem => 19
  | .smem => 0
  | _ => 0

abbrev hbmTy0_0 (i : Nat) : BufTy := match i % 128 with
  | 0 => ⟨S524288x15x4, .f32⟩
  | 1 => ⟨S4x24, .f32⟩
  | 2 => ⟨S24, .f32⟩
  | 3 => ⟨S24x24, .f32⟩
  | 4 => ⟨S24, .f32⟩
  | 5 => ⟨S24x3, .f32⟩
  | 6 => ⟨S3, .f32⟩
  | 7 => ⟨S12x24, .f32⟩
  | 8 => ⟨S24, .f32⟩
  | 9 => ⟨S24x12, .f32⟩
  | 10 => ⟨S12, .f32⟩
  | 11 => ⟨S4, .f32⟩
  | 12 => ⟨S2, .f32⟩
  | 13 => ⟨S96x24, .f32⟩
  | 14 => ⟨S24, .f32⟩
  | 15 => ⟨S24x4, .f32⟩
  | 16 => ⟨S4, .f32⟩
  | 17 => ⟨S4x4, .f32⟩
  | 18 => ⟨S2x2, .f32⟩
  | 19 => ⟨S96x8, .f32⟩
  | 20 => ⟨S96x3, .f32⟩
  | 21 => ⟨S96x8, .f32⟩
  | 22 => ⟨S524288x1x4, .f32⟩
  | 23 => ⟨S524288x4, .f32⟩
  | 24 => ⟨S4x524288, .f32⟩
  | 25 => ⟨S_, .f32⟩
  | 26 => ⟨S_, .f32⟩
  | 27 => ⟨S_, .f32⟩
  | 28 => ⟨S_, .f32⟩
  | 29 => ⟨S1, .f32⟩
  | 30 => ⟨S4, .f32⟩
  | 31 => ⟨S4, .f32⟩
  | 32 => ⟨S4, .f32⟩
  | 33 => ⟨S_, .f32⟩
  | 34 => ⟨S_, .f32⟩
  | 35 => ⟨S1, .f32⟩
  | 36 => ⟨S4, .f32⟩
  | 37 => ⟨S4, .f32⟩
  | 38 => ⟨S1x4, .f32⟩
  | 39 => ⟨S4x4, .f32⟩
  | 40 => ⟨S4x4, .f32⟩
  | 41 => ⟨S_, .f32⟩
  | 42 => ⟨S4, .f32⟩
  | 43 => ⟨S4x1, .f32⟩
  | 44 => ⟨S_, .f32⟩
  | 45 => ⟨S4x1, .f32⟩
  | 46 => ⟨S4x1, .f32⟩
  | 47 => ⟨S4x4, .f32⟩
  | 48 => ⟨S4x4, .f32⟩
  | 49 => ⟨S_, .f32⟩
  | 50 => ⟨S_, .f32⟩
  | 51 => ⟨S_, .f32⟩
  | 52 => ⟨S_, .f32⟩
  | 53 => ⟨S1, .f32⟩
  | 54 => ⟨S2, .f32⟩
  | 55 => ⟨S2, .f32⟩
  | 56 => ⟨S2, .f32⟩
  | 57 => ⟨S_, .f32⟩
  | 58 => ⟨S_, .f32⟩
  | 59 => ⟨S1, .f32⟩
  | 60 => ⟨S2, .f32⟩
  | 61 => ⟨S2, .f32⟩
  | 62 => ⟨S1x2, .f32⟩
  | 63 => ⟨S2x2, .f32⟩
  | 64 => ⟨S2x2, .f32⟩
  | 65 => ⟨S_, .f32⟩
  | 66 => ⟨S2, .f32⟩
  | 67 => ⟨S2x1, .f32⟩
  | 68 => ⟨S_, .f32⟩
  | 69 => ⟨S2x1, .f32⟩
  | 70 => ⟨S2x1, .f32⟩
  | 71 => ⟨S2x2, .f32⟩
  | 72 => ⟨S2x2, .f32⟩
  | 73 => ⟨S96x96, .i32⟩
  | 74 => ⟨S96x96, .i32⟩
  | 75 => ⟨S_, .i32⟩
  | 76 => ⟨S96x96, .i32⟩
  | 77 => ⟨S96x96, .i32⟩
  | 78 => ⟨S96x96, .i1⟩
  | 79 => ⟨S96x96, .f32⟩
  | 80 => ⟨S4x4, .f32⟩
  | 81 => ⟨S24x24, .i32⟩
  | 82 => ⟨S24x24, .i32⟩
  | 83 => ⟨S_, .i32⟩
  | 84 => ⟨S24x24, .i32⟩
  | 85 => ⟨S24x24, .i32⟩
  | 86 => ⟨S24x24, .i1⟩
  | 87 => ⟨S24x24, .f32⟩
  | 88 => ⟨S4x1x4x1, .f32⟩
  | 89 => ⟨S1x24x1x24, .f32⟩
  | 90 => ⟨S4x24x4x24, .f32⟩
  | 91 => ⟨S4x24x4x24, .f32⟩
  | 92 => ⟨S4x24x4x24, .f32⟩
  | 93 => ⟨S96x96, .f32⟩
  | 94 => ⟨S96x96, .f32⟩
  | 95 => ⟨S2x2, .f32⟩
  | 96 => ⟨S48x48, .i32⟩
  | 97 => ⟨S48x48, .i32⟩
  | 98 => ⟨S_, .i32⟩
  | 99 => ⟨S48x48, .i32⟩
  | 100 => ⟨S48x48, .i32⟩
  | 101 => ⟨S48x48, .i1⟩
  | 102 => ⟨S48x48, .f32⟩
  | 103 => ⟨S2x1x2x1, .f32⟩
  | 104 => ⟨S1x48x1x48, .f32⟩
  | 105 => ⟨S2x48x2x48, .f32⟩
  | 106 => ⟨S2x48x2x48, .f32⟩
  | 107 => ⟨S2x48x2x48, .f32⟩
  | 108 => ⟨S96x96, .f32⟩
  | 109 => ⟨S96x96, .f32⟩
  | 110 => ⟨S8x8, .i32⟩
  | 111 => ⟨S8x8, .i32⟩
  | 112 => ⟨S_, .i32⟩
  | 113 => ⟨S8x8, .i32⟩
  | 114 => ⟨S8x8, .i32⟩
  | 115 => ⟨S8x8, .i1⟩
  | 116 => ⟨S8x8, .f32⟩
  | 117 => ⟨S8x1x8x1, .f32⟩
  | 118 => ⟨S1x12x1x24, .f32⟩
  | 119 => ⟨S8x12x8x24, .f32⟩
  | 120 => ⟨S8x12x8x24, .f32⟩
  | 121 => ⟨S8x12x8x24, .f32⟩
  | 122 => ⟨S8x12x192, .f32⟩
  | 123 => ⟨S96x8x12, .f32⟩
  | 124 => ⟨S96x192, .f32⟩
  | 125 => ⟨S192x96, .f32⟩
  | 126 => ⟨S1x24, .f32⟩
  | 127 => ⟨S8x24, .f32⟩
  | _ => ⟨S524288x15x4, .f32⟩

abbrev hbmTy0_1 (i : Nat) : BufTy := match i % 128 with
  | 0 => ⟨S192, .f32⟩
  | 1 => ⟨S192x1, .f32⟩
  | 2 => ⟨S8x8, .i32⟩
  | 3 => ⟨S8x8, .i32⟩
  | 4 => ⟨S_, .i32⟩
  | 5 => ⟨S8x8, .i32⟩
  | 6 => ⟨S8x8, .i32⟩
  | 7 => ⟨S8x8, .i1⟩
  | 8 => ⟨S8x8, .f32⟩
  | 9 => ⟨S8x1x8x1, .f32⟩
  | 10 => ⟨S1x24x1x12, .f32⟩
  | 11 => ⟨S8x24x8x12, .f32⟩
  | 12 => ⟨S8x24x8x12, .f32⟩
  | 13 => ⟨S8x24x8x12, .f32⟩
  | 14 => ⟨S192x96, .f32⟩
  | 15 => ⟨S192x24, .f32⟩
  | 16 => ⟨S24x192, .f32⟩
  | 17 => ⟨S1x12, .f32⟩
  | 18 => ⟨S8x12, .f32⟩
  | 19 => ⟨S96, .f32⟩
  | 20 => ⟨S24, .f32⟩
  | 21 => ⟨S24, .f32⟩
  | 22 => ⟨S24x1, .f32⟩
  | 23 => ⟨S4x24, .f32⟩
  | 24 => ⟨S4x1, .f32⟩
  | 25 => ⟨S24x4, .f32⟩
  | 26 => ⟨S24x1, .f32⟩
  | 27 => ⟨S24x24, .f32⟩
  | 28 => ⟨S24x1, .f32⟩
  | 29 => ⟨S3x24, .f32⟩
  | 30 => ⟨S3x1, .f32⟩
  | 31 => ⟨S4x524288, .f32⟩
  | 32 => ⟨S524288x4, .f32⟩
  | _ => ⟨S524288x15x4, .f32⟩

abbrev hbmTy (i : Nat) : BufTy := match i / 128 with
  | 0 => hbmTy0_0 i
  | 1 => hbmTy0_1 i
  | _ => ⟨S524288x15x4, .f32⟩

abbrev bufTy : (tb : Table) → Fin (tcTables nBuf tb) → BufTy
  | .hbm, ⟨i, _⟩ => hbmTy i
  | .local _ .vmem, ⟨0, _⟩ => ⟨S4x2048, .f32⟩
  | .local _ .vmem, ⟨1, _⟩ => ⟨S4x2048, .f32⟩
  | .local _ .vmem, ⟨2, _⟩ => ⟨S24x4, .f32⟩
  | .local _ .vmem, ⟨3, _⟩ => ⟨S24x1, .f32⟩
  | .local _ .vmem, ⟨4, _⟩ => ⟨S24x24, .f32⟩
  | .local _ .vmem, ⟨5, _⟩ => ⟨S24x1, .f32⟩
  | .local _ .vmem, ⟨6, _⟩ => ⟨S3x24, .f32⟩
  | .local _ .vmem, ⟨7, _⟩ => ⟨S3x1, .f32⟩
  | .local _ .vmem, ⟨8, _⟩ => ⟨S96x8, .f32⟩
  | .local _ .vmem, ⟨9, _⟩ => ⟨S96x3, .f32⟩
  | .local _ .vmem, ⟨10, _⟩ => ⟨S96x8, .f32⟩
  | .local _ .vmem, ⟨11, _⟩ => ⟨S192x96, .f32⟩
  | .local _ .vmem, ⟨12, _⟩ => ⟨S192x1, .f32⟩
  | .local _ .vmem, ⟨13, _⟩ => ⟨S24x192, .f32⟩
  | .local _ .vmem, ⟨14, _⟩ => ⟨S24x1, .f32⟩
  | .local _ .vmem, ⟨15, _⟩ => ⟨S4x24, .f32⟩
  | .local _ .vmem, ⟨16, _⟩ => ⟨S4x1, .f32⟩
  | .local _ .vmem, ⟨17, _⟩ => ⟨S4x2048, .f32⟩
  | .local _ .vmem, ⟨18, _⟩ => ⟨S4x2048, .f32⟩
  | _, _ => ⟨S524288x15x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_cst_0 : Ref sig .tc := ⟨.hbm, 18, rfl⟩
abbrev main_cst_1 : Ref sig .tc := ⟨.hbm, 19, rfl⟩
abbrev main_cst_2 : Ref sig .tc := ⟨.hbm, 20, rfl⟩
abbrev main_cst_3 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_cst_4 : Ref sig .tc := ⟨.hbm, 25, rfl⟩
abbrev main_v3 : Ref sig .tc := ⟨.hbm, 26, rfl⟩
abbrev main_cst_5 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_6 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_7 : Ref sig .tc := ⟨.hbm, 41, rfl⟩
abbrev main_v16 : Ref sig .tc := ⟨.hbm, 42, rfl⟩
abbrev main_v17 : Ref sig .tc := ⟨.hbm, 43, rfl⟩
abbrev main_cst_8 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_9 : Ref sig .tc := ⟨.hbm, 49, rfl⟩
abbrev main_v22 : Ref sig .tc := ⟨.hbm, 50, rfl⟩
abbrev main_cst_10 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_11 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_12 : Ref sig .tc := ⟨.hbm, 65, rfl⟩
abbrev main_v35 : Ref sig .tc := ⟨.hbm, 66, rfl⟩
abbrev main_v36 : Ref sig .tc := ⟨.hbm, 67, rfl⟩
abbrev main_cst_13 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_14 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_c_15 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_c_16 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_c_17 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_call2_v0 : Ref sig .tc := ⟨.hbm, 137, rfl⟩
abbrev main_call2_v1 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S96x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S96x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S24x192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S24x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x24 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S4x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "two_over_pi" => some ((8388608 / 13176795 : ℝ) : EReal)
  | _ => none
-- ==== ReferenceIdeal.lean ====
abbrev S524288x15x4 : Shape := ⟨3, ![524288, 15, 4]⟩
abbrev S4x24 : Shape := ⟨2, ![4, 24]⟩
abbrev S24 : Shape := ⟨1, ![24]⟩
abbrev S24x24 : Shape := ⟨2, ![24, 24]⟩
abbrev S24x3 : Shape := ⟨2, ![24, 3]⟩
abbrev S3 : Shape := ⟨1, ![3]⟩
abbrev S12x24 : Shape := ⟨2, ![12, 24]⟩
abbrev S24x12 : Shape := ⟨2, ![24, 12]⟩
abbrev S12 : Shape := ⟨1, ![12]⟩
abbrev S4 : Shape := ⟨1, ![4]⟩
abbrev S2 : Shape := ⟨1, ![2]⟩
abbrev S96x24 : Shape := ⟨2, ![96, 24]⟩
abbrev S24x4 : Shape := ⟨2, ![24, 4]⟩
abbrev S4x4 : Shape := ⟨2, ![4, 4]⟩
abbrev S2x2 : Shape := ⟨2, ![2, 2]⟩
abbrev S524288x1x4 : Shape := ⟨3, ![524288, 1, 4]⟩
abbrev S524288x4 : Shape := ⟨2, ![524288, 4]⟩
abbrev S524288x24 : Shape := ⟨2, ![524288, 24]⟩
abbrev S1x24 : Shape := ⟨2, ![1, 24]⟩
abbrev S524288x3 : Shape := ⟨2, ![524288, 3]⟩
abbrev S1x3 : Shape := ⟨2, ![1, 3]⟩
abbrev S524288x1 : Shape := ⟨2, ![524288, 1]⟩
abbrev S524288 : Shape := ⟨1, ![524288]⟩
abbrev S_ : Shape := ⟨0, ![]⟩
abbrev S1x4 : Shape := ⟨2, ![1, 4]⟩
abbrev S524288x4x1 : Shape := ⟨3, ![524288, 4, 1]⟩
abbrev S1x1x8 : Shape := ⟨3, ![1, 1, 8]⟩
abbrev S524288x4x8 : Shape := ⟨3, ![524288, 4, 8]⟩
abbrev S524288x1x3 : Shape := ⟨3, ![524288, 1, 3]⟩
abbrev S524288x4x3 : Shape := ⟨3, ![524288, 4, 3]⟩
abbrev S524288x4x12 : Shape := ⟨3, ![524288, 4, 12]⟩
abbrev S524288x8x12 : Shape := ⟨3, ![524288, 8, 12]⟩
abbrev S1 : Shape := ⟨1, ![1]⟩
abbrev S4x1 : Shape := ⟨2, ![4, 1]⟩
abbrev S524288x4x24 : Shape := ⟨3, ![524288, 4, 24]⟩
abbrev S524288x24x4 : Shape := ⟨3, ![524288, 24, 4]⟩
abbrev S1x2 : Shape := ⟨2, ![1, 2]⟩
abbrev S2x1 : Shape := ⟨2, ![2, 1]⟩
abbrev S524288x2x48 : Shape := ⟨3, ![524288, 2, 48]⟩
abbrev S524288x48x2 : Shape := ⟨3, ![524288, 48, 2]⟩
abbrev S524288x8x24 : Shape := ⟨3, ![524288, 8, 24]⟩
abbrev S1x1x24 : Shape := ⟨3, ![1, 1, 24]⟩
abbrev S1x1x12 : Shape := ⟨3, ![1, 1, 12]⟩
abbrev S524288x96 : Shape := ⟨2, ![524288, 96]⟩

abbrev nBuf : Space → Nat
  | .hbm => 240
  | .vmem => 0
  | .smem => 0
  | _ => 0

abbrev hbmTy0_0 (i : Nat) : BufTy := match i % 128 with
  | 0 => ⟨S524288x15x4, .f32⟩
  | 1 => ⟨S4x24, .f32⟩
  | 2 => ⟨S24, .f32⟩
  | 3 => ⟨S24x24, .f32⟩
  | 4 => ⟨S24, .f32⟩
  | 5 => ⟨S24x3, .f32⟩
  | 6 => ⟨S3, .f32⟩
  | 7 => ⟨S12x24, .f32⟩
  | 8 => ⟨S24, .f32⟩
  | 9 => ⟨S24x12, .f32⟩
  | 10 => ⟨S12, .f32⟩
  | 11 => ⟨S4, .f32⟩
  | 12 => ⟨S2, .f32⟩
  | 13 => ⟨S96x24, .f32⟩
  | 14 => ⟨S24, .f32⟩
  | 15 => ⟨S24x4, .f32⟩
  | 16 => ⟨S4, .f32⟩
  | 17 => ⟨S4, .i32⟩
  | 18 => ⟨S4, .i32⟩
  | 19 => ⟨S4x4, .f32⟩
  | 20 => ⟨S2x2, .f32⟩
  | 21 => ⟨S524288x1x4, .f32⟩
  | 22 => ⟨S524288x4, .f32⟩
  | 23 => ⟨S524288x24, .f32⟩
  | 24 => ⟨S1x24, .f32⟩
  | 25 => ⟨S524288x24, .f32⟩
  | 26 => ⟨S524288x24, .f32⟩
  | 27 => ⟨S524288x24, .f32⟩
  | 28 => ⟨S524288x24, .f32⟩
  | 29 => ⟨S1x24, .f32⟩
  | 30 => ⟨S524288x24, .f32⟩
  | 31 => ⟨S524288x24, .f32⟩
  | 32 => ⟨S524288x24, .f32⟩
  | 33 => ⟨S524288x3, .f32⟩
  | 34 => ⟨S1x3, .f32⟩
  | 35 => ⟨S524288x3, .f32⟩
  | 36 => ⟨S524288x3, .f32⟩
  | 37 => ⟨S524288x1, .f32⟩
  | 38 => ⟨S524288, .f32⟩
  | 39 => ⟨S524288, .f32⟩
  | 40 => ⟨S524288, .f32⟩
  | 41 => ⟨S_, .f32⟩
  | 42 => ⟨S524288, .f32⟩
  | 43 => ⟨S524288, .f32⟩
  | 44 => ⟨S_, .f32⟩
  | 45 => ⟨S524288, .f32⟩
  | 46 => ⟨S524288, .f32⟩
  | 47 => ⟨S_, .f32⟩
  | 48 => ⟨S524288, .f32⟩
  | 49 => ⟨S524288, .f32⟩
  | 50 => ⟨S524288x1, .f32⟩
  | 51 => ⟨S524288, .f32⟩
  | 52 => ⟨S_, .f32⟩
  | 53 => ⟨S524288, .f32⟩
  | 54 => ⟨S524288, .f32⟩
  | 55 => ⟨S_, .f32⟩
  | 56 => ⟨S524288, .f32⟩
  | 57 => ⟨S524288, .f32⟩
  | 58 => ⟨S_, .f32⟩
  | 59 => ⟨S524288, .f32⟩
  | 60 => ⟨S524288, .f32⟩
  | 61 => ⟨S_, .f32⟩
  | 62 => ⟨S524288, .f32⟩
  | 63 => ⟨S524288, .i1⟩
  | 64 => ⟨S524288, .f32⟩
  | 65 => ⟨S524288, .f32⟩
  | 66 => ⟨S524288, .f32⟩
  | 67 => ⟨S_, .f32⟩
  | 68 => ⟨S524288, .f32⟩
  | 69 => ⟨S524288, .i1⟩
  | 70 => ⟨S524288, .f32⟩
  | 71 => ⟨S524288, .f32⟩
  | 72 => ⟨S524288, .f32⟩
  | 73 => ⟨S524288, .f32⟩
  | 74 => ⟨S524288, .f32⟩
  | 75 => ⟨S1x4, .i32⟩
  | 76 => ⟨S_, .i32⟩
  | 77 => ⟨S1x4, .i32⟩
  | 78 => ⟨S1x4, .i1⟩
  | 79 => ⟨S_, .f32⟩
  | 80 => ⟨S524288, .f32⟩
  | 81 => ⟨S524288, .f32⟩
  | 82 => ⟨S524288x1, .f32⟩
  | 83 => ⟨S524288x1, .f32⟩
  | 84 => ⟨S524288x4, .i1⟩
  | 85 => ⟨S524288x4, .f32⟩
  | 86 => ⟨S524288x4, .f32⟩
  | 87 => ⟨S524288x4, .f32⟩
  | 88 => ⟨S1x4, .i32⟩
  | 89 => ⟨S_, .i32⟩
  | 90 => ⟨S1x4, .i32⟩
  | 91 => ⟨S1x4, .i1⟩
  | 92 => ⟨S_, .f32⟩
  | 93 => ⟨S524288, .f32⟩
  | 94 => ⟨S524288, .f32⟩
  | 95 => ⟨S524288x1, .f32⟩
  | 96 => ⟨S524288x1, .f32⟩
  | 97 => ⟨S524288x4, .i1⟩
  | 98 => ⟨S524288x4, .f32⟩
  | 99 => ⟨S524288x4, .f32⟩
  | 100 => ⟨S524288x4, .f32⟩
  | 101 => ⟨S524288x4, .f32⟩
  | 102 => ⟨S_, .f32⟩
  | 103 => ⟨S524288x4, .f32⟩
  | 104 => ⟨S524288x4, .i1⟩
  | 105 => ⟨S524288x4, .f32⟩
  | 106 => ⟨S524288, .i32⟩
  | 107 => ⟨S524288x1, .i32⟩
  | 108 => ⟨S1x4, .i32⟩
  | 109 => ⟨S524288x4, .i32⟩
  | 110 => ⟨S524288x4, .i32⟩
  | 111 => ⟨S524288x4, .i32⟩
  | 112 => ⟨S_, .i32⟩
  | 113 => ⟨S524288x4, .i32⟩
  | 114 => ⟨S524288x4, .i32⟩
  | 115 => ⟨S524288, .i32⟩
  | 116 => ⟨S524288x1, .i32⟩
  | 117 => ⟨S1x4, .i32⟩
  | 118 => ⟨S524288x4, .i32⟩
  | 119 => ⟨S524288x4, .i32⟩
  | 120 => ⟨S524288x4, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S524288x4, .i32⟩
  | _ => ⟨S524288x15x4, .f32⟩

abbrev hbmTy0_1 (i : Nat) : BufTy := match i % 128 with
  | 0 => ⟨S524288x4, .i32⟩
  | 1 => ⟨S_, .i32⟩
  | 2 => ⟨S524288x4, .i32⟩
  | 3 => ⟨S524288x4, .i1⟩
  | 4 => ⟨S_, .i32⟩
  | 5 => ⟨S524288x4, .i32⟩
  | 6 => ⟨S524288x4, .i1⟩
  | 7 => ⟨S_, .i32⟩
  | 8 => ⟨S_, .i1⟩
  | 9 => ⟨S524288x4, .i1⟩
  | 10 => ⟨S524288x4, .i1⟩
  | 11 => ⟨S524288x4, .i1⟩
  | 12 => ⟨S524288x4, .i32⟩
  | 13 => ⟨S524288x4, .i32⟩
  | 14 => ⟨S524288x4, .i32⟩
  | 15 => ⟨S_, .i32⟩
  | 16 => ⟨S524288x4, .i32⟩
  | 17 => ⟨S524288x4, .i32⟩
  | 18 => ⟨S524288x4, .i32⟩
  | 19 => ⟨S524288x4x1, .i32⟩
  | 20 => ⟨S1x1x8, .i32⟩
  | 21 => ⟨S524288x4x8, .i32⟩
  | 22 => ⟨S524288x4x8, .i32⟩
  | 23 => ⟨S524288x4x8, .i1⟩
  | 24 => ⟨S524288x4x8, .f32⟩
  | 25 => ⟨S524288x4x1, .f32⟩
  | 26 => ⟨S524288x4x8, .f32⟩
  | 27 => ⟨S524288x4x8, .f32⟩
  | 28 => ⟨S524288x1x3, .f32⟩
  | 29 => ⟨S524288x4x3, .f32⟩
  | 30 => ⟨S524288x4x1, .f32⟩
  | 31 => ⟨S_, .f32⟩
  | 32 => ⟨S524288x4x8, .f32⟩
  | 33 => ⟨S524288x4x12, .f32⟩
  | 34 => ⟨S524288x8x12, .f32⟩
  | 35 => ⟨S_, .f32⟩
  | 36 => ⟨S_, .f32⟩
  | 37 => ⟨S_, .f32⟩
  | 38 => ⟨S_, .f32⟩
  | 39 => ⟨S1, .f32⟩
  | 40 => ⟨S4, .f32⟩
  | 41 => ⟨S4, .f32⟩
  | 42 => ⟨S4, .f32⟩
  | 43 => ⟨S_, .f32⟩
  | 44 => ⟨S_, .f32⟩
  | 45 => ⟨S1, .f32⟩
  | 46 => ⟨S4, .f32⟩
  | 47 => ⟨S4, .f32⟩
  | 48 => ⟨S1x4, .f32⟩
  | 49 => ⟨S4x4, .f32⟩
  | 50 => ⟨S4x4, .f32⟩
  | 51 => ⟨S_, .f32⟩
  | 52 => ⟨S4, .f32⟩
  | 53 => ⟨S4x1, .f32⟩
  | 54 => ⟨S_, .f32⟩
  | 55 => ⟨S4x1, .f32⟩
  | 56 => ⟨S4x1, .f32⟩
  | 57 => ⟨S4x4, .f32⟩
  | 58 => ⟨S4x4, .f32⟩
  | 59 => ⟨S524288x4x24, .f32⟩
  | 60 => ⟨S524288x24x4, .f32⟩
  | 61 => ⟨S524288x4x24, .f32⟩
  | 62 => ⟨S524288x8x12, .f32⟩
  | 63 => ⟨S_, .f32⟩
  | 64 => ⟨S_, .f32⟩
  | 65 => ⟨S_, .f32⟩
  | 66 => ⟨S_, .f32⟩
  | 67 => ⟨S1, .f32⟩
  | 68 => ⟨S2, .f32⟩
  | 69 => ⟨S2, .f32⟩
  | 70 => ⟨S2, .f32⟩
  | 71 => ⟨S_, .f32⟩
  | 72 => ⟨S_, .f32⟩
  | 73 => ⟨S1, .f32⟩
  | 74 => ⟨S2, .f32⟩
  | 75 => ⟨S2, .f32⟩
  | 76 => ⟨S1x2, .f32⟩
  | 77 => ⟨S2x2, .f32⟩
  | 78 => ⟨S2x2, .f32⟩
  | 79 => ⟨S_, .f32⟩
  | 80 => ⟨S2, .f32⟩
  | 81 => ⟨S2x1, .f32⟩
  | 82 => ⟨S_, .f32⟩
  | 83 => ⟨S2x1, .f32⟩
  | 84 => ⟨S2x1, .f32⟩
  | 85 => ⟨S2x2, .f32⟩
  | 86 => ⟨S2x2, .f32⟩
  | 87 => ⟨S524288x2x48, .f32⟩
  | 88 => ⟨S524288x48x2, .f32⟩
  | 89 => ⟨S524288x2x48, .f32⟩
  | 90 => ⟨S524288x8x12, .f32⟩
  | 91 => ⟨S524288x8x12, .f32⟩
  | 92 => ⟨S524288x8x12, .f32⟩
  | 93 => ⟨S524288x8x24, .f32⟩
  | 94 => ⟨S1x1x24, .f32⟩
  | 95 => ⟨S524288x8x24, .f32⟩
  | 96 => ⟨S524288x8x24, .f32⟩
  | 97 => ⟨S524288x8x24, .f32⟩
  | 98 => ⟨S524288x8x12, .f32⟩
  | 99 => ⟨S1x1x12, .f32⟩
  | 100 => ⟨S524288x8x12, .f32⟩
  | 101 => ⟨S524288x8x12, .f32⟩
  | 102 => ⟨S524288x96, .f32⟩
  | 103 => ⟨S524288x24, .f32⟩
  | 104 => ⟨S1x24, .f32⟩
  | 105 => ⟨S524288x24, .f32⟩
  | 106 => ⟨S524288x24, .f32⟩
  | 107 => ⟨S524288x24, .f32⟩
  | 108 => ⟨S524288x4, .f32⟩
  | 109 => ⟨S1x4, .f32⟩
  | 110 => ⟨S524288x4, .f32⟩
  | 111 => ⟨S524288x4, .f32⟩
  | _ => ⟨S524288x15x4, .f32⟩

abbrev hbmTy (i : Nat) : BufTy := match i / 128 with
  | 0 => hbmTy0_0 i
  | 1 => hbmTy0_1 i
  | _ => ⟨S524288x15x4, .f32⟩

abbrev bufTy : (tb : Table) → Fin (tcTables nBuf tb) → BufTy
  | .hbm, ⟨i, _⟩ => hbmTy i
  | _, _ => ⟨S524288x15x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_c_0 : Ref sig .tc := ⟨.hbm, 18, rfl⟩
abbrev main_cst : Ref sig .tc := ⟨.hbm, 19, rfl⟩
abbrev main_cst_1 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩
abbrev main_v33 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_v34 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_c_8 : Ref sig .tc := ⟨.hbm, 76, rfl⟩
abbrev main_v39 : Ref sig .tc := ⟨.hbm, 77, rfl⟩
abbrev main_v40 : Ref sig .tc := ⟨.hbm, 78, rfl⟩
abbrev main_cst_9 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v45 : Ref sig .tc := ⟨.hbm, 87, rfl⟩
abbrev main_v46 : Ref sig .tc := ⟨.hbm, 88, rfl⟩
abbrev main_c_10 : Ref sig .tc := ⟨.hbm, 89, rfl⟩
abbrev main_v47 : Ref sig .tc := ⟨.hbm, 90, rfl⟩
abbrev main_v48 : Ref sig .tc := ⟨.hbm, 91, rfl⟩
abbrev main_cst_11 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v53 : Ref sig .tc := ⟨.hbm, 100, rfl⟩
abbrev main_v54 : Ref sig .tc := ⟨.hbm, 101, rfl⟩
abbrev main_cst_12 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_c_13 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_c_14 : Ref sig .tc := ⟨.hbm, 121, rfl⟩
abbrev main_call4_v0 : Ref sig .tc := ⟨.hbm, 122, rfl⟩
abbrev main_call4_c : Ref sig .tc := ⟨.hbm, 123, rfl⟩
abbrev main_call4_v1 : Ref sig .tc := ⟨.hbm, 124, rfl⟩
abbrev main_call4_c_0 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_c_1 : Ref sig .tc := ⟨.hbm, 129, rfl⟩
abbrev main_call4_v5 : Ref sig .tc := ⟨.hbm, 130, rfl⟩
abbrev main_call4_v6 : Ref sig .tc := ⟨.hbm, 131, rfl⟩
abbrev main_call4_c_2 : Ref sig .tc := ⟨.hbm, 132, rfl⟩
abbrev main_call4_v7 : Ref sig .tc := ⟨.hbm, 133, rfl⟩
abbrev main_call4_v8 : Ref sig .tc := ⟨.hbm, 134, rfl⟩
abbrev main_call4_c_3 : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_call4_v12 : Ref sig .tc := ⟨.hbm, 139, rfl⟩
abbrev main_call4_v13 : Ref sig .tc := ⟨.hbm, 140, rfl⟩
abbrev main_call4_v14 : Ref sig .tc := ⟨.hbm, 141, rfl⟩
abbrev main_v72 : Ref sig .tc := ⟨.hbm, 142, rfl⟩
abbrev main_c_15 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_call5_v3 : Ref sig .tc := ⟨.hbm, 150, rfl⟩
abbrev main_call5_v4 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_cst_16 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_cst_17 : Ref sig .tc := ⟨.hbm, 163, rfl⟩
abbrev main_v86 : Ref sig .tc := ⟨.hbm, 164, rfl⟩
abbrev main_cst_18 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_cst_19 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_cst_20 : Ref sig .tc := ⟨.hbm, 179, rfl⟩
abbrev main_v99 : Ref sig .tc := ⟨.hbm, 180, rfl⟩
abbrev main_v100 : Ref sig .tc := ⟨.hbm, 181, rfl⟩
abbrev main_cst_21 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_cst_22 : Ref sig .tc := ⟨.hbm, 191, rfl⟩
abbrev main_v109 : Ref sig .tc := ⟨.hbm, 192, rfl⟩
abbrev main_cst_23 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_cst_24 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_cst_25 : Ref sig .tc := ⟨.hbm, 207, rfl⟩
abbrev main_v122 : Ref sig .tc := ⟨.hbm, 208, rfl⟩
abbrev main_v123 : Ref sig .tc := ⟨.hbm, 209, rfl⟩
abbrev main_cst_26 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩

abbrev nD : Nat := 1
abbrev τ : Topo := Topo.v7x

variable {F : FTy → Type} [FloatOps F]
-- ==== Proof.Algebra.lean ====
/- Sums and products of extended reals, as the two programs arrange them. Extended reals are no ring: a product
   distributes over a sum only when the summands have one sign, or when the factor is a real number. -/
module

public import Idealize.ShloMosaic.Lib.Pointwise

@[expose] public section

set_option maxRecDepth 16384

noncomputable section

open Idealize.ShloMosaic

namespace Cert.Proof.Algebra

/-- The numbers of a family are all at least zero or all at most zero. -/
def OneSign {n : ℕ} (x : Fin n → EReal) : Prop := (∀ i, 0 ≤ x i) ∨ ∀ i, x i ≤ 0

/-- The number is not an infinity. -/
def Real (x : EReal) : Prop := ∃ r : ℝ, x = r

/-- A sum of numbers at least zero times a factor is the sum of the products. -/
theorem sum_mul_nonneg {n : ℕ} (x : Fin n → EReal) (hx : ∀ i, 0 ≤ x i) (w : EReal) (s : Finset (Fin n)) :
    (∑ i ∈ s, x i) * w = ∑ i ∈ s, x i * w := by
  classical
  induction s using Finset.induction_on with
  | empty => simp
  | insert a s ha ih =>
    rw [Finset.sum_insert ha, Finset.sum_insert ha, ← ih]
    exact EReal.right_distrib_of_nonneg (hx a) (Finset.sum_nonneg fun i _ => hx i)

/-- The negative of a sum of numbers at least zero is the sum of the negatives. -/
theorem neg_sum_nonneg {n : ℕ} (x : Fin n → EReal) (hx : ∀ i, 0 ≤ x i) : -(∑ i, x i) = ∑ i, -x i := by
  have h := sum_mul_nonneg x hx (-1) Finset.univ
  simpa [mul_neg] using h

/-- A sum of numbers of one sign times a factor is the sum of the products. -/
theorem sum_mul_oneSign {n : ℕ} (x : Fin n → EReal) (hx : OneSign x) (w : EReal) : (∑ i, x i) * w = ∑ i, x i * w := by
  rcases hx with h | h
  · exact sum_mul_nonneg x h w _
  · have h' : ∀ i, 0 ≤ -x i := fun i => by simpa using h i
    have e1 : ∑ i, x i = -(∑ i, -x i) := by rw [neg_sum_nonneg _ h']; simp
    have e2 := sum_mul_nonneg (fun i => -x i) h' (-w) Finset.univ
    rw [e1, neg_mul, ← mul_neg, e2]
    simp

/-- Coefficients at least zero keep a family's one sign. -/
theorem OneSign.mul {n : ℕ} {x : Fin n → EReal} (hx : OneSign x) (c : Fin n → EReal) (hc : ∀ i, 0 ≤ c i) :
    OneSign fun i => c i * x i := by
  rcases hx with h | h
  · exact .inl fun i => EReal.mul_nonneg (hc i) (h i)
  · exact .inr fun i => mul_nonpos_of_nonneg_of_nonpos (hc i) (h i)

/-- Numbers at least zero times one common factor have one sign. -/
theorem oneSign_mul_common {n : ℕ} (s : Fin n → EReal) (hs : ∀ i, 0 ≤ s i) (z : EReal) : OneSign fun i => s i * z := by
  rcases le_total 0 z with h | h
  · exact .inl fun i => EReal.mul_nonneg (hs i) h
  · exact .inr fun i => mul_nonpos_of_nonneg_of_nonpos (hs i) h

/-- A family combined with coefficients at least zero, each product also scaled by a weight: the weight comes out. -/
theorem mix_out {n : ℕ} (x : Fin n → EReal) (hx : OneSign x) (c : Fin n → EReal) (hc : ∀ i, 0 ≤ c i) (w : EReal) :
    ∑ i, c i * w * x i = (∑ i, c i * x i) * w := by
  rw [sum_mul_oneSign _ (hx.mul c hc)]
  exact Finset.sum_congr rfl fun i _ => by rw [mul_assoc, mul_comm w, ← mul_assoc]

/-- Three coefficients at least zero distribute over one number, and their combinations are three combinations. -/
theorem mix_three {n : ℕ} (x : Fin n → EReal) (c₁ c₂ c₃ : Fin n → EReal) (h₁ : ∀ i, 0 ≤ c₁ i) (h₂ : ∀ i, 0 ≤ c₂ i)
    (h₃ : ∀ i, 0 ≤ c₃ i) :
    ∑ i, (c₁ i + c₂ i + c₃ i) * x i = ∑ i, c₁ i * x i + ∑ i, c₂ i * x i + ∑ i, c₃ i * x i := by
  rw [← Finset.sum_add_distrib, ← Finset.sum_add_distrib]
  refine Finset.sum_congr rfl fun i _ => ?_
  rw [EReal.right_distrib_of_nonneg (add_nonneg (h₁ i) (h₂ i)) (h₃ i), EReal.right_distrib_of_nonneg (h₁ i) (h₂ i)]

/-- The sum of real numbers read as extended reals is their sum as extended reals. -/
theorem coe_sum {n : ℕ} (r : Fin n → ℝ) : ((∑ i, r i : ℝ) : EReal) = ∑ i, (r i : EReal) := by
  classical
  have h : ∀ s : Finset (Fin n), ((∑ i ∈ s, r i : ℝ) : EReal) = ∑ i ∈ s, (r i : EReal) := fun s => by
    induction s using Finset.induction_on with
    | empty => simp
    | insert a s ha ih => rw [Finset.sum_insert ha, Finset.sum_insert ha, EReal.coe_add, ih]
  exact h _

/-- A product of real numbers is a real number. -/
theorem Real.mul {x y : EReal} (hx : Real x) (hy : Real y) : Real (x * y) := by
  obtain ⟨a, rfl⟩ := hx; obtain ⟨b, rfl⟩ := hy; exact ⟨a * b, by simp⟩

/-- A sum of real numbers is a real number. -/
theorem Real.sum {n : ℕ} {x : Fin n → EReal} (hx : ∀ i, Real (x i)) : Real (∑ i, x i) := by
  choose r hr using hx
  exact ⟨∑ i, r i, by simp [hr, coe_sum]⟩

/-- The hyperbolic tangent is a real number everywhere. -/
theorem real_tanh (x : EReal) : Real (Ideal.tanh x) := by
  induction x using EReal.rec with
  | bot => exact ⟨-1, by simp⟩
  | coe r => exact ⟨Real.tanh r, by simp⟩
  | top => exact ⟨1, by simp⟩

/-- A real number plus anything, times a real number, is the sum of the products. -/
theorem add_mul_real {a r : EReal} (ha : Real a) (hr : Real r) (b : EReal) : (a + b) * r = a * r + b * r := by
  obtain ⟨a, rfl⟩ := ha; obtain ⟨r, rfl⟩ := hr
  induction b using EReal.rec with
  | bot =>
    rw [EReal.add_bot]
    rcases lt_trichotomy r 0 with h | h | h
    · rw [EReal.bot_mul_coe_of_neg h, ← EReal.coe_mul, EReal.coe_add_top]
    · subst h; simp
    · rw [EReal.bot_mul_coe_of_pos h, EReal.add_bot]
  | coe b => norm_cast; ring
  | top =>
    rw [EReal.coe_add_top]
    rcases lt_trichotomy r 0 with h | h | h
    · rw [EReal.top_mul_coe_of_neg h, EReal.add_bot]
    · subst h; simp
    · rw [EReal.top_mul_coe_of_pos h, ← EReal.coe_mul, EReal.coe_add_top]

/-- Two products of real matrices, summed in either order. -/
theorem real_exchange {m n : ℕ} (g : Fin m → EReal) (w : Fin m → Fin n → EReal) (r : Fin n → EReal)
    (hg : ∀ j, Real (g j)) (hw : ∀ j e, Real (w j e)) (hr : ∀ e, Real (r e)) :
    ∑ e, (∑ j, g j * w j e) * r e = ∑ j, (∑ e, w j e * r e) * g j := by
  choose g' hg using hg; choose w' hw using hw; choose r' hr using hr
  simp only [hg, hw, hr]
  simp only [← EReal.coe_mul, ← coe_sum]
  refine congrArg _ ?_
  simp only [Finset.sum_mul]
  rw [Finset.sum_comm]
  exact Finset.sum_congr rfl fun j _ => Finset.sum_congr rfl fun e _ => by ring

/-- A layer's output with its bias, through real weights: the layer's part through the product of the two weight
    matrices, the bias's part apart. -/
theorem layer_out {m n : ℕ} (g : Fin m → EReal) (w : Fin m → Fin n → EReal) (b r : Fin n → EReal)
    (hg : ∀ j, Real (g j)) (hw : ∀ j e, Real (w j e)) (hr : ∀ e, Real (r e)) :
    ∑ e, (∑ j, g j * w j e + b e) * r e = ∑ j, (∑ e, w j e * r e) * g j + ∑ e, b e * r e := by
  rw [← real_exchange g w r hg hw hr, ← Finset.sum_add_distrib]
  exact Finset.sum_congr rfl fun e _ => add_mul_real (.sum fun j => (hg j).mul (hw j e)) (hr e) _

end Cert.Proof.Algebra

end
-- ==== Proof.Cells.lean ====
/- What one row of the batch computes from its three encoder outputs: the grid position, the weights of the four
   corners around it, the node each corner falls on, and the node features gathered from the corners. Scalars only. -/
module

public import proofs.«01_k».proof.Proof.Algebra

@[expose] public section

set_option maxRecDepth 16384

noncomputable section

open Idealize.ShloMosaic

namespace Cert.Proof.Cells

open Cert.Proof.Algebra

/-- The number cut toward zero. -/
def cut (x : EReal) : EReal := if x < 0 then Ideal.liftRound Int.ceil x else Ideal.liftRound Int.floor x

/-- What the cut takes away. -/
def rest (x : EReal) : EReal := x - cut x

/-- The cut number as a 32-bit integer. -/
def whole (x : EReal) : BitVec 32 := FloatOps.fptosi (F := Ideal) (φ := .f32) 32 (cut x)

/-- A corner's radial offset: 0, 0, 1, 1. -/
def offR (c : Fin 4) : BitVec 32 := if c.val < 2 then 0#32 else 1#32

/-- A corner's angular offset: 0, 1, 0, 1. -/
def offP (c : Fin 4) : BitVec 32 := if c.val % 2 = 0 then 0#32 else 1#32

/-- A corner's weight: the product of how near the position lies to it along both directions. -/
def weight (r p : EReal) (c : Fin 4) : EReal :=
  (if c.val < 2 then 1 - rest r else rest r) * (if c.val % 2 = 0 then 1 - rest p else rest p)

/-- The remainder by four that is never negative, from the remainder that has the dividend's sign. -/
def wrap (k : BitVec 32) : BitVec 32 :=
  Scalar.select (IntOp.andi (IntOp.cmpi .slt (k.srem 4#32) 0#32) (IntOp.cmpi .ne (k.srem 4#32) 0#32))
    (IntOp.addi (k.srem 4#32) 4#32) (k.srem 4#32)

/-- The node a corner falls on. -/
def cell (r p : EReal) (c : Fin 4) : BitVec 32 :=
  IntOp.addi (IntOp.muli (IntOp.minsi (IntOp.addi (whole r) (offR c)) 1#32) 4#32)
    (wrap (IntOp.addi (whole p) (offP c)))

/-- A corner with a positive weight falls on the node. -/
def hit (r p : EReal) (n : Fin 8) (c : Fin 4) : BitVec 1 :=
  IntOp.andi (IntOp.cmpi .eq (BitVec.ofNat 32 n) (cell r p c)) (BitVec.ofBool (decide (0 < weight r p c)))

/-- How many corners fall on the node. -/
def tally (r p : EReal) (n : Fin 8) : EReal := ∑ c : Fin 4, Scalar.select (hit r p n c) (1 : EReal) 0

/-- The weights of the corners that fall on the node, added. -/
def mass (r p : EReal) (n : Fin 8) : EReal := ∑ c : Fin 4, Scalar.select (hit r p n c) (weight r p c) (0 : EReal)

/-- A node's twelve features: the encoder's three outputs once for every corner on the node, then the corners'
    weights, then zeros. -/
def feature (r p : EReal) (z : Fin 3 → EReal) (n : Fin 8) (d : Fin 12) : EReal :=
  if h : d.val < 3 then tally r p n * z ⟨d, h⟩ else if d.val = 3 then mass r p n else 0

theorem tally_nonneg (r p : EReal) (n : Fin 8) : 0 ≤ tally r p n :=
  Finset.sum_nonneg fun c _ => by unfold Scalar.select; split <;> simp

/-- A corner on the node has a positive weight. -/
theorem weight_pos {r p : EReal} {n : Fin 8} {c : Fin 4} (h : hit r p n c = 1) : 0 < weight r p c := by
  unfold hit at h
  by_contra hn
  rw [decide_eq_false hn] at h
  revert h
  generalize IntOp.cmpi .eq (BitVec.ofNat 32 n) (cell r p c) = e
  revert e
  decide

theorem mass_nonneg (r p : EReal) (n : Fin 8) : 0 ≤ mass r p n :=
  Finset.sum_nonneg fun c _ => by
    unfold Scalar.select
    split
    · exact (weight_pos ‹_›).le
    · exact le_rfl

/-- One feature over all nodes has one sign. -/
theorem feature_oneSign (r p : EReal) (z : Fin 3 → EReal) (d : Fin 12) : OneSign fun n => feature r p z n d := by
  unfold feature
  by_cases h : d.val < 3
  · simp only [dif_pos h]
    exact oneSign_mul_common _ (tally_nonneg r p) _
  · simp only [dif_neg h]
    by_cases h' : d.val = 3
    · simp only [if_pos h']
      exact .inl (mass_nonneg r p)
    · simp only [if_neg h']
      exact .inl fun _ => le_rfl

/-- A corner's indicator times a number, over the four corners: the corners counted, times the number. -/
theorem tally_mul (r p : EReal) (n : Fin 8) (z : EReal) :
    ∑ c : Fin 4, Scalar.select (hit r p n c) (1 : EReal) 0 * z = tally r p n * z :=
  (sum_mul_nonneg _ (fun c => by unfold Scalar.select; split <;> simp) z _).symm

/-- Division by four has no corner case, so every unit computes the same remainder. -/
theorem remsi_four (u : ArithUnit) (k : BitVec 32) : IntOp.remsi u k 4#32 = k.srem 4#32 := by
  unfold IntOp.remsi
  rw [if_neg]
  unfold IntOp.SDivCorner
  simp

/-- The divisor both programs guard against being zero is four. -/
theorem divisor : Scalar.select (Scalar.cmpi .eq 4#32 0#32) 1#32 4#32 = 4#32 := by decide

/-- Four is not negative. -/
theorem four_slt : Scalar.cmpi .slt 4#32 0#32 = 0#1 := by decide

/-- Exclusive or with a zero bit changes nothing. -/
theorem xori_zero (x : BitVec 1) : IntOp.xori x 0#1 = x := by revert x; decide

/-- Being different from a zero bit is the bit itself. -/
theorem ne_zero (x : BitVec 1) : IntOp.cmpi .ne x 0#1 = x := by revert x; decide

end Cert.Proof.Cells

end
-- ==== Proof.Net.lean ====
/- The node layers over any features: mixing the features first and applying one matrix that holds the mixing give the
   same numbers, and so do two layers with nothing between them and their product. Sums over extended reals only. -/
module

public import proofs.«01_k».proof.Proof.Algebra

@[expose] public section

set_option maxRecDepth 16384

noncomputable section

open Idealize.ShloMosaic

namespace Cert.Proof.Net

open Cert.Proof.Algebra

variable (A : Fin 4 → Fin 4 → EReal) (R : Fin 2 → Fin 2 → EReal)

/-- How much of node `m`'s features node `n` receives: its own, a share along the angle, a share along the radius. -/
def share (m n : Fin 8) : EReal :=
  (if m = n then 1 else 0) + A ⟨n.val / 2, by omega⟩ ⟨m.val / 2, by omega⟩ * (if m.val % 2 = n.val % 2 then 1 else 0) +
    R ⟨n.val / 4, by omega⟩ ⟨m.val / 4, by omega⟩ * (if m.val % 4 = n.val % 4 then 1 else 0)

/-- One entry of the mixing matrix over all features of all nodes. -/
def entry (x y : Fin 96) : EReal :=
  (if x.val = y.val then 1 else 0) +
    A ⟨y.val / 24, by omega⟩ ⟨x.val / 24, by omega⟩ * (if x.val % 24 = y.val % 24 then 1 else 0) +
    R ⟨y.val / 48, by omega⟩ ⟨x.val / 48, by omega⟩ * (if x.val % 48 = y.val % 48 then 1 else 0)

/-- The mixing matrix keeps features apart and treats all of them alike. -/
theorem entry_eq (x : Fin 96) (n : Fin 8) (d : Fin 12) (h : n.val * 12 + d.val < 96) :
    entry A R x ⟨n.val * 12 + d.val, h⟩ = if x.val % 12 = d.val then share A R ⟨x.val / 12, by omega⟩ n else 0 := by
  have a1 : (⟨(n.val * 12 + d.val) / 24, by omega⟩ : Fin 4) = ⟨n.val / 2, by omega⟩ := Fin.ext (by dsimp only; omega)
  have a2 : (⟨x.val / 24, by omega⟩ : Fin 4) = ⟨x.val / 12 / 2, by omega⟩ := Fin.ext (by dsimp only; omega)
  have a3 : (⟨(n.val * 12 + d.val) / 48, by omega⟩ : Fin 2) = ⟨n.val / 4, by omega⟩ := Fin.ext (by dsimp only; omega)
  have a4 : (⟨x.val / 48, by omega⟩ : Fin 2) = ⟨x.val / 12 / 4, by omega⟩ := Fin.ext (by dsimp only; omega)
  unfold entry share
  dsimp only
  rw [a1, a2, a3, a4]
  by_cases e : x.val % 12 = d.val
  · have b1 : (x.val = n.val * 12 + d.val) = ((⟨x.val / 12, by omega⟩ : Fin 8) = n) :=
      propext ⟨fun h => Fin.ext (by dsimp only; omega), fun h => by have := congrArg Fin.val h; dsimp only at this; omega⟩
    have b2 : (x.val % 24 = (n.val * 12 + d.val) % 24) = (x.val / 12 % 2 = n.val % 2) := propext (by omega)
    have b3 : (x.val % 48 = (n.val * 12 + d.val) % 48) = (x.val / 12 % 4 = n.val % 4) := propext (by omega)
    simp only [b1, b2, b3, if_pos e]
  · rw [if_neg e, if_neg (by omega), if_neg (by omega), if_neg (by omega)]
    simp

/-- One entry of the mixing and the first layer multiplied: the first layer's weight times the share. -/
theorem effective_entry (x : Fin 96) (n : Fin 8) (w : Fin 12 → EReal) :
    (∑ d : Fin 12, ∑ k : Fin 8, entry A R x ⟨k.val * 12 + d.val, by omega⟩ * ((if k.val = n.val then 1 else 0) * w d)) =
      share A R ⟨x.val / 12, by omega⟩ n * w ⟨x.val % 12, by omega⟩ := by
  have h : ∀ (d : Fin 12) (k : Fin 8),
      entry A R x ⟨k.val * 12 + d.val, by omega⟩ * ((if k.val = n.val then 1 else 0) * w d) =
        if k = n then (if d = ⟨x.val % 12, by omega⟩ then share A R ⟨x.val / 12, by omega⟩ n * w d else 0) else 0 := by
    intro d k
    rw [entry_eq]
    by_cases hk : k = n
    · subst hk
      simp only [if_pos rfl, one_mul]
      by_cases hd : d = ⟨x.val % 12, by omega⟩
      · rw [if_pos hd, if_pos (by rw [hd])]
        simp
      · rw [if_neg hd, if_neg (fun h => hd (Fin.ext h.symm))]
        simp
    · rw [if_neg hk, if_neg (fun h => hk (Fin.ext h))]
      simp
  simp only [h, Finset.sum_ite_eq', Finset.mem_univ, if_true]

/-- The shares are at least zero when the weights are. -/
theorem indicator_nonneg (p : Prop) [Decidable p] : (0 : EReal) ≤ if p then 1 else 0 := by split <;> simp

variable {A R}

/-- Mixing inside the first layer's matrix, or the features mixed first: one sum. -/
theorem mixed (hA : ∀ i j, 0 ≤ A i j) (hR : ∀ i j, 0 ≤ R i j) (f : Fin 8 → Fin 12 → EReal)
    (hf : ∀ d, OneSign fun n => f n d) (w : Fin 12 → EReal) (n : Fin 8) :
    (∑ x : Fin 96, share A R ⟨x.val / 12, by omega⟩ n * w ⟨x.val % 12, by omega⟩ *
        f ⟨x.val / 12, by omega⟩ ⟨x.val % 12, by omega⟩) =
      ∑ d : Fin 12, (f n d + (∑ j : Fin 4, f ⟨j.val * 2 + n.val % 2, by omega⟩ d * A ⟨n.val / 2, by omega⟩ j) +
        ∑ j : Fin 2, f ⟨j.val * 4 + n.val % 4, by omega⟩ d * R ⟨n.val / 4, by omega⟩ j) * w d := by
  rw [Fin.sum_univ_tiles 8 12 rfl, Finset.sum_comm]
  refine Finset.sum_congr rfl fun d _ => ?_
  have e : ∀ (k : Fin 8) (h : k.val * 12 + d.val < 96),
      share A R ⟨(k.val * 12 + d.val) / 12, by omega⟩ n * w ⟨(k.val * 12 + d.val) % 12, by omega⟩ *
        f ⟨(k.val * 12 + d.val) / 12, by omega⟩ ⟨(k.val * 12 + d.val) % 12, by omega⟩ = share A R k n * w d * f k d := by
    intro k h
    have c1 : (⟨(k.val * 12 + d.val) / 12, by omega⟩ : Fin 8) = k := Fin.ext (by dsimp only; omega)
    have c2 : (⟨(k.val * 12 + d.val) % 12, by omega⟩ : Fin 12) = d := Fin.ext (by dsimp only; omega)
    rw [c1, c2]
  refine (Finset.sum_congr rfl fun k _ => e k (by omega)).trans ?_
  have s1 : ∀ k, (0 : EReal) ≤ if k = n then 1 else 0 := fun k => indicator_nonneg _
  have s2 : ∀ k : Fin 8, 0 ≤ A ⟨n.val / 2, by omega⟩ ⟨k.val / 2, by omega⟩ * (if k.val % 2 = n.val % 2 then 1 else 0) :=
    fun k => EReal.mul_nonneg (hA _ _) (indicator_nonneg _)
  have s3 : ∀ k : Fin 8, 0 ≤ R ⟨n.val / 4, by omega⟩ ⟨k.val / 4, by omega⟩ * (if k.val % 4 = n.val % 4 then 1 else 0) :=
    fun k => EReal.mul_nonneg (hR _ _) (indicator_nonneg _)
  rw [mix_out (fun k => f k d) (hf d) (fun k => share A R k n) (fun k => add_nonneg (add_nonneg (s1 k) (s2 k)) (s3 k)) (w d)]
  refine congrArg (· * w d) ?_
  refine (mix_three (fun k => f k d) _ _ _ s1 s2 s3).trans ?_
  have t1 : (∑ k : Fin 8, (if k = n then (1 : EReal) else 0) * f k d) = f n d := by simp
  have t2 : (∑ k : Fin 8, A ⟨n.val / 2, by omega⟩ ⟨k.val / 2, by omega⟩ * (if k.val % 2 = n.val % 2 then 1 else 0) * f k d) =
      ∑ j : Fin 4, f ⟨j.val * 2 + n.val % 2, by omega⟩ d * A ⟨n.val / 2, by omega⟩ j := by
    rw [Fin.sum_univ_tiles 4 2 rfl]
    refine Finset.sum_congr rfl fun j _ => ?_
    rw [Finset.sum_eq_single (⟨n.val % 2, by omega⟩ : Fin 2)]
    · have c1 : (⟨(j.val * 2 + n.val % 2) / 2, by omega⟩ : Fin 4) = j := Fin.ext (by dsimp only; omega)
      dsimp only
      rw [c1, if_pos (by omega), mul_one, mul_comm]
    · intro b _ hb
      rw [if_neg (fun h => hb (Fin.ext (by dsimp only at h ⊢; omega)))]
      simp
    · exact fun h => absurd (Finset.mem_univ _) h
  have t3 : (∑ k : Fin 8, R ⟨n.val / 4, by omega⟩ ⟨k.val / 4, by omega⟩ * (if k.val % 4 = n.val % 4 then 1 else 0) * f k d) =
      ∑ j : Fin 2, f ⟨j.val * 4 + n.val % 4, by omega⟩ d * R ⟨n.val / 4, by omega⟩ j := by
    rw [Fin.sum_univ_tiles 2 4 rfl]
    refine Finset.sum_congr rfl fun j _ => ?_
    rw [Finset.sum_eq_single (⟨n.val % 4, by omega⟩ : Fin 4)]
    · have c1 : (⟨(j.val * 4 + n.val % 4) / 4, by omega⟩ : Fin 2) = j := Fin.ext (by dsimp only; omega)
      dsimp only
      rw [c1, if_pos (by omega), mul_one, mul_comm]
    · intro b _ hb
      rw [if_neg (fun h => hb (Fin.ext (by dsimp only at h ⊢; omega)))]
      simp
    · exact fun h => absurd (Finset.mem_univ _) h
  rw [t1, t2, t3]

/-- A row of the second node layer's block matrix times the first readout layer's weights: one node's rows only. -/
theorem block_row (w : Fin 12 → EReal) (r : Fin 96 → EReal) (n : Fin 8) :
    (∑ y : Fin 96, (if n.val = y.val / 12 then 1 else 0) * w ⟨y.val % 12, by omega⟩ * r y) =
      ∑ e : Fin 12, w e * r ⟨n.val * 12 + e.val, by omega⟩ := by
  rw [Fin.sum_univ_tiles 8 12 rfl, Finset.sum_eq_single n]
  · refine Finset.sum_congr rfl fun e _ => ?_
    have c : (⟨(n.val * 12 + e.val) % 12, by omega⟩ : Fin 12) = e := Fin.ext (by dsimp only; omega)
    dsimp only
    rw [c, if_pos (by omega), one_mul]
  · intro k _ hk
    refine Finset.sum_eq_zero fun e _ => ?_
    have : ¬ n.val = (k.val * 12 + e.val) / 12 := fun h => hk (Fin.ext (by omega))
    dsimp only
    rw [if_neg this]
    simp
  · exact fun h => absurd (Finset.mem_univ _) h

/-- A sum over all hidden units of all nodes, node by node. -/
theorem by_node (h : Fin 8 → Fin 24 → EReal) :
    (∑ q : Fin 192, h ⟨q.val / 24, by omega⟩ ⟨q.val % 24, by omega⟩) = ∑ n, ∑ j, h n j := by
  rw [Fin.sum_univ_tiles 8 24 rfl]
  refine Finset.sum_congr rfl fun n _ => Finset.sum_congr rfl fun j _ => ?_
  have c3 : (⟨(n.val * 24 + j.val) / 24, by omega⟩ : Fin 8) = n := Fin.ext (by dsimp only; omega)
  have c4 : (⟨(n.val * 24 + j.val) % 24, by omega⟩ : Fin 24) = j := Fin.ext (by dsimp only; omega)
  dsimp only
  rw [c3, c4]

/-- A sum over all features of all nodes, node by node. -/
theorem by_feature (h : Fin 8 → Fin 12 → Fin 96 → EReal) :
    (∑ y : Fin 96, h ⟨y.val / 12, by omega⟩ ⟨y.val % 12, by omega⟩ y) =
      ∑ n : Fin 8, ∑ e : Fin 12, h n e ⟨n.val * 12 + e.val, by omega⟩ := by
  rw [Fin.sum_univ_tiles 8 12 rfl]
  refine Finset.sum_congr rfl fun n _ => Finset.sum_congr rfl fun e _ => ?_
  have c1 : (⟨(n.val * 12 + e.val) / 12, by omega⟩ : Fin 8) = n := Fin.ext (by dsimp only; omega)
  have c2 : (⟨(n.val * 12 + e.val) % 12, by omega⟩ : Fin 12) = e := Fin.ext (by dsimp only; omega)
  dsimp only
  rw [c1, c2]

/-- The second node layer and the first readout layer, one after the other or multiplied beforehand: one sum. -/
theorem layers (g : Fin 8 → Fin 24 → EReal) (w : Fin 24 → Fin 12 → EReal) (b : Fin 12 → EReal) (r : Fin 96 → EReal)
    (hg : ∀ n j, Real (g n j)) (hw : ∀ j e, Real (w j e)) (hr : ∀ y, Real (r y)) :
    (∑ y : Fin 96, (∑ j : Fin 24, g ⟨y.val / 12, by omega⟩ j * w j ⟨y.val % 12, by omega⟩ + b ⟨y.val % 12, by omega⟩) * r y) =
      (∑ q : Fin 192, (∑ y : Fin 96, (if q.val / 24 = y.val / 12 then 1 else 0) *
          w ⟨q.val % 24, by omega⟩ ⟨y.val % 12, by omega⟩ * r y) * g ⟨q.val / 24, by omega⟩ ⟨q.val % 24, by omega⟩) +
        ∑ y : Fin 96, b ⟨y.val % 12, by omega⟩ * r y := by
  refine (by_feature fun n e y => (∑ j : Fin 24, g n j * w j e + b e) * r y).trans ?_
  refine Eq.trans ?_ (congrArg₂ (· + ·)
    (by_node fun n j => (∑ y : Fin 96, (if n.val = y.val / 12 then 1 else 0) * w j ⟨y.val % 12, by omega⟩ * r y) * g n j).symm
    (by_feature fun n e y => b e * r y).symm)
  rw [← Finset.sum_add_distrib]
  refine Finset.sum_congr rfl fun n _ => ?_
  rw [layer_out (g n) w b (fun e => r ⟨n.val * 12 + e.val, by omega⟩) (hg n) hw (fun e => hr _)]
  refine congrArg (· + _) (Finset.sum_congr rfl fun j _ => ?_)
  rw [block_row (w j) r n]

variable (A R)

/-- A node's hidden units: its features mixed with its neighbours', through the first node layer. -/
def hidden (f : Fin 8 → Fin 12 → EReal) (w : Fin 12 → Fin 24 → EReal) (b : Fin 24 → EReal) (n : Fin 8) (j : Fin 24) : EReal :=
  Ideal.tanh (∑ d : Fin 12, (f n d + (∑ i : Fin 4, f ⟨i.val * 2 + n.val % 2, by omega⟩ d * A ⟨n.val / 2, by omega⟩ i) +
    ∑ i : Fin 2, f ⟨i.val * 4 + n.val % 4, by omega⟩ d * R ⟨n.val / 4, by omega⟩ i) * w d j + b j)

/-- One output, from the hidden units: the second node layer, then the two readout layers. -/
def answer (g : Fin 8 → Fin 24 → EReal) (w : Fin 24 → Fin 12 → EReal) (b : Fin 12 → EReal) (r : Fin 96 → Fin 24 → EReal)
    (s : Fin 24 → EReal) (u : Fin 24 → Fin 4 → EReal) (v : Fin 4 → EReal) (o : Fin 4) : EReal :=
  ∑ k : Fin 24, Ideal.tanh (∑ y : Fin 96, (∑ j : Fin 24, g ⟨y.val / 12, by omega⟩ j * w j ⟨y.val % 12, by omega⟩ +
    b ⟨y.val % 12, by omega⟩) * r y k + s k) * u k o + v o

end Cert.Proof.Net

end
-- ==== Proof.Weights.lean ====
/- The weights along which nodes exchange features: a softmax over the logits, kept on the adjacent pairs, each row
   divided by its sum. With finite logits they are at least zero. -/
module

public import proofs.«01_k».proof.Proof.Algebra

@[expose] public section

set_option maxRecDepth 16384

noncomputable section

open Idealize.ShloMosaic

namespace Cert.Proof.Weights

open Cert.Proof.Algebra

variable {n : ℕ}

/-- The exponential of a logit less the largest. -/
def expo (x : Fin n → EReal) (j : Fin n) : EReal :=
  Ideal.exp (x j - max (Ideal.ofBits .f32 0xFF800000#32) (Finset.fold max (Ideal.ofBits .f32 0xFF800000#32) x Finset.univ))

/-- The softmax's entry on a pair of neighbours (an odd distance apart), zero on any other pair. -/
def raw (x : Fin n → EReal) (i j : Fin n) : EReal :=
  Ideal.div (expo x j) (∑ k, expo x k) * Ideal.ofBits .f32 (if (i.val + j.val) % 2 = 1 then 0x3F800000#32 else 0#32)

/-- The entries, each row divided by its sum (by a small positive number where the sum is less). -/
def weight (x : Fin n → EReal) (i j : Fin n) : EReal :=
  Ideal.div (raw x i j) (max (∑ k, raw x i k) (Ideal.ofBits .f32 0x358637BD#32))

/-- A number at least zero divided by a positive one is at least zero. -/
theorem div_nonneg {a b : EReal} (ha : 0 ≤ a) (hb : 0 < b) : 0 ≤ Ideal.div a b := by
  unfold Ideal.div
  rw [if_neg hb.ne']
  exact EReal.mul_nonneg ha (EReal.inv_nonneg_of_nonneg hb.le)

/-- The exponential is at least zero. -/
theorem exp_nonneg (x : EReal) : 0 ≤ Ideal.exp x := by
  induction x using EReal.rec with
  | bot => exact le_rfl
  | coe r => exact EReal.coe_nonneg.mpr (Real.exp_pos r).le
  | top => exact le_top

/-- The exponential of anything above minus infinity is positive. -/
theorem exp_pos {x : EReal} (h : x ≠ ⊥) : 0 < Ideal.exp x := by
  induction x using EReal.rec with
  | bot => exact absurd rfl h
  | coe r => exact EReal.coe_pos.mpr (Real.exp_pos r)
  | top => exact EReal.zero_lt_top

/-- The word of minus infinity. -/
theorem minus_inf : Ideal.ofBits .f32 0xFF800000#32 = ⊥ := by
  simp [Ideal.ofBits, Ideal.ieee]

/-- The small positive number. -/
theorem tiny_pos : 0 < Ideal.ofBits .f32 0x358637BD#32 := by
  simp [Ideal.ofBits, Ideal.ieee, -EReal.coe_mul]

/-- The word of one. -/
theorem word_one : Ideal.ofBits .f32 0x3F800000#32 = 1 := by
  simp [Ideal.ofBits, Ideal.ieee, -EReal.coe_mul]; norm_num

/-- The word of zero. -/
theorem word_zero : Ideal.ofBits .f32 0#32 = 0 := by
  simp [Ideal.ofBits, Ideal.ieee]

/-- With finite logits every exponential is positive. -/
theorem expo_pos (x : Fin n → EReal) (hx : ∀ j, Real (x j)) (j : Fin n) : 0 < expo x j := by
  refine exp_pos ?_
  have ht : Finset.fold max (Ideal.ofBits .f32 0xFF800000#32) x Finset.univ < ⊤ := by
    refine (Finset.fold_max_lt _).mpr ⟨by rw [minus_inf]; exact bot_lt_top, fun k _ => ?_⟩
    obtain ⟨r, hr⟩ := hx k
    rw [hr]
    exact EReal.coe_lt_top r
  have hm : max (Ideal.ofBits .f32 0xFF800000#32) (Finset.fold max (Ideal.ofBits .f32 0xFF800000#32) x Finset.univ) ≠ ⊤ :=
    (max_lt (by rw [minus_inf]; exact bot_lt_top) ht).ne
  generalize max (Ideal.ofBits .f32 0xFF800000#32) (Finset.fold max (Ideal.ofBits .f32 0xFF800000#32) x Finset.univ) = M at hm
  obtain ⟨r, hr⟩ := hx j
  rw [hr, sub_eq_add_neg]
  intro h
  rcases EReal.add_eq_bot_iff.mp h with h | h
  · exact EReal.coe_ne_bot r h
  · exact hm (by simpa using h)

/-- With finite logits an entry is at least zero. -/
theorem raw_nonneg (x : Fin n → EReal) (hx : ∀ j, Real (x j)) (i j : Fin n) : 0 ≤ raw x i j := by
  refine EReal.mul_nonneg (div_nonneg (expo_pos x hx j).le ?_) ?_
  · exact lt_of_lt_of_le (expo_pos x hx j) (Finset.single_le_sum (fun k _ => (expo_pos x hx k).le) (Finset.mem_univ j))
  · split
    · rw [word_one]; exact zero_le_one
    · rw [word_zero]

/-- With finite logits a weight is at least zero. -/
theorem weight_nonneg (x : Fin n → EReal) (hx : ∀ j, Real (x j)) (i j : Fin n) : 0 ≤ weight x i j :=
  div_nonneg (raw_nonneg x hx i j) (lt_max_of_lt_right tiny_pos)

end Cert.Proof.Weights

end
-- ==== Proof.Refr.lean ====
/- What the reference computes, entry by entry, in the terms of one row. -/
module

public import proofs.«01_k».proof.Proof.Gen.ReferenceIdeal.Run
public import proofs.«01_k».proof.Proof.Cells
public import proofs.«01_k».proof.Proof.Net
public import proofs.«01_k».proof.Proof.Weights
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Gen Cert.ReferenceIdeal.Value

namespace Cert.Proof.Refr

open Cert.Proof.Cells

variable (V0 : Valuation τ sig (Elt Ideal)) (b : Fin 524288)

/-- The encoder's outputs of one row. -/
def code (i : Fin 3) : EReal := res_main_v15 (F := Ideal) V0 (ix2 b i)

/-- The row's radial position on the grid. -/
theorem radius : res_main_v25 (F := Ideal) V0 (ix1 b) = Ideal.logistic (code V0 b 0) := by
  pointwise [res_main_v25]
  rfl

/-- The row's angular position on the grid. -/
theorem angle : res_main_v33 (F := Ideal) V0 (ix1 b) =
    Ideal.div (code V0 b 1 + Ideal.ofBits .f32 0x40490FDB#32) (Ideal.ofBits .f32 0x40C90FDB#32) *
      Ideal.ofBits .f32 0x40800000#32 := by
  pointwise [res_main_v33]
  rfl

/-- What the radial position keeps after its whole part is taken away. -/
theorem radius_rest : res_main_v36 (F := Ideal) V0 (ix1 b) = rest (res_main_v25 (F := Ideal) V0 (ix1 b)) := by
  pointwise [res_main_v36, res_main_v34]
  rfl

/-- What the angular position keeps after its whole part is taken away. -/
theorem angle_rest : res_main_v37 (F := Ideal) V0 (ix1 b) = rest (res_main_v33 (F := Ideal) V0 (ix1 b)) := by
  pointwise [res_main_v37, res_main_v35]
  rfl

/-- The table of the corners' radial offsets. -/
theorem offset_r (c : Fin 4) : lit0 (S4.rowMajor (ix1 c)) = offR c := by
  revert c; decide +kernel

/-- The table of the corners' angular offsets. -/
theorem offset_p (c : Fin 4) : lit1 (S4.rowMajor (ix1 c)) = offP c := by
  revert c; decide +kernel

/-- Choosing by an offset being zero, radially. -/
theorem choose_r (c : Fin 4) (x y : EReal) :
    Scalar.select (IntOp.cmpi .eq (offR c) 0#32) x y = if c.val < 2 then x else y := by
  unfold offR
  by_cases h : c.val < 2
  · simp only [if_pos h]; rfl
  · simp only [if_neg h]; rfl

/-- Choosing by an offset being zero, angularly. -/
theorem choose_p (c : Fin 4) (x y : EReal) :
    Scalar.select (IntOp.cmpi .eq (offP c) 0#32) x y = if c.val % 2 = 0 then x else y := by
  unfold offP
  by_cases h : c.val % 2 = 0
  · simp only [if_pos h]; rfl
  · simp only [if_neg h]; rfl

/-- One corner's weight. -/
theorem corner_weight (c : Fin 4) : res_main_v54 (F := Ideal) V0 (ix2 b c) =
    weight (res_main_v25 (F := Ideal) V0 (ix1 b)) (res_main_v33 (F := Ideal) V0 (ix1 b)) c := by
  pointwise [res_main_v54, res_main_c, res_main_c_0]
  rw [offset_r, offset_p, choose_r, choose_p, radius_rest, angle_rest]
  rfl

/-- The guard against a zero divisor leaves four. -/
theorem guard : Scalar.select (IntOp.cmpi .eq (id (constantI S_ 32 4#32) ix0) 0#32) 1#32 (id (constantI S_ 32 4#32) ix0) = 4#32 := by
  rfl

/-- One corner's angular index before it is wrapped into the grid. -/
theorem corner_angle (c : Fin 4) : res_main_call4_v4 (F := Ideal) V0 (ix2 b c) =
    (IntOp.addi (whole (res_main_v33 (F := Ideal) V0 (ix1 b))) (offP c)).srem 4#32 := by
  pointwise [res_main_call4_v4, res_main_call4_v2, res_main_call4_v0, res_main_c, res_main_c_0, res_main_v35]
  rw [guard, remsi_four, offset_p]
  rfl

/-- A zero bit is what four being negative gives. -/
theorem not_negative : IntOp.cmpi .slt 4#32 0#32 = 0#1 := by decide

/-- Two indicators multiplied choose one where both hold. -/
theorem both (x y : BitVec 32) (q : BitVec 1) :
    FloatOps.uitofp (F := Ideal) .f32 (IntOp.cmpi .eq x y) * FloatOps.uitofp (F := Ideal) .f32 q =
      Scalar.select (IntOp.andi (IntOp.cmpi .eq y x) q) (1 : EReal) 0 := by
  have e : IntOp.cmpi .eq x y = IntOp.cmpi .eq y x := by
    unfold IntOp.cmpi
    exact congrArg BitVec.ofBool (Bool.beq_comm)
  rw [e]
  generalize IntOp.cmpi .eq y x = u
  have hu : ∀ u q : BitVec 1, (((u.toNat : ℝ) : EReal) * ((q.toNat : ℝ) : EReal)) = Scalar.select (IntOp.andi u q) (1 : EReal) 0 := by
    intro u q
    have h : ∀ v : BitVec 1, v = 0#1 ∨ v = 1#1 := by decide
    rcases h u with rfl | rfl <;> rcases h q with rfl | rfl <;> simp [Scalar.select, IntOp.andi]
  exact hu u q

/-- The node features of one row. -/
theorem nodes (n : Fin 8) (d : Fin 12) : res_main_v85 (F := Ideal) V0 (ix3 b n d) =
    feature (res_main_v25 (F := Ideal) V0 (ix1 b)) (res_main_v33 (F := Ideal) V0 (ix1 b)) (code V0 b) n d := by
  pointwise [res_main_v85, res_main_call4_v2, res_main_call4_v0, res_main_c, res_main_c_0, res_main_v34]
  simp only [guard, offset_r, corner_weight, corner_angle, not_negative, ne_zero, both]
  generalize res_main_v25 (F := Ideal) V0 (ix1 b) = r₀
  generalize res_main_v33 (F := Ideal) V0 (ix1 b) = p₀
  revert r₀ p₀
  intro (r : EReal) (p : EReal)
  show (∑ x : Fin 4, Scalar.select (IntOp.andi (IntOp.cmpi .eq (BitVec.ofNat 32 n.val) (IntOp.addi
      (IntOp.muli (IntOp.minsi (IntOp.addi (whole r) (offR x)) 1#32) 4#32)
      (Scalar.select (IntOp.andi (IntOp.cmpi .ne (IntOp.cmpi .slt ((IntOp.addi (whole p) (offP x)).srem 4#32) 0#32)
            (IntOp.cmpi .slt 4#32 0#32))
          (IntOp.cmpi .ne ((IntOp.addi (whole p) (offP x)).srem 4#32) 0#32))
        (IntOp.addi ((IntOp.addi (whole p) (offP x)).srem 4#32) 4#32) ((IntOp.addi (whole p) (offP x)).srem 4#32))))
      (BitVec.ofBool (decide (0 < weight r p x)))) (1 : EReal) 0 * (if h : d.val < 3 then code V0 b ⟨d.val, h⟩
    else if h : d.val - 3 < 1 then weight r p x else 0)) = _
  simp only [not_negative, ne_zero]
  show (∑ x : Fin 4, Scalar.select (hit r p n x) (1 : EReal) 0 * (if h : d.val < 3 then code V0 b ⟨d.val, h⟩
    else if h : d.val - 3 < 1 then weight r p x else 0)) = _
  unfold feature
  by_cases h : d.val < 3
  · simp only [dif_pos h]
    exact tally_mul r p n _
  · simp only [dif_neg h]
    by_cases h' : d.val = 3
    · have : d.val - 3 < 1 := by omega
      simp only [dif_pos this, if_pos h']
      unfold mass
      refine Finset.sum_congr rfl fun x _ => ?_
      unfold Scalar.select
      split <;> simp
    · have : ¬ d.val - 3 < 1 := by omega
      simp only [dif_neg this, if_neg h']
      simp

/-- One output of the encoder. -/
theorem encoder (i : Fin 3) : code V0 b i =
    ∑ k : Fin 24, Ideal.tanh (∑ j : Fin 24, Ideal.tanh (∑ f : Fin 4,
        (show FVec Ideal S524288x15x4 .f32 from V0 (Proc.tc.devRef main_arg0)) (ix3 b 14 f) *
          (show FVec Ideal S4x24 .f32 from V0 (Proc.tc.devRef main_arg1)) (ix2 f j) +
        (show FVec Ideal S24 .f32 from V0 (Proc.tc.devRef main_arg2)) (ix1 j)) *
        (show FVec Ideal S24x24 .f32 from V0 (Proc.tc.devRef main_arg3)) (ix2 j k) +
      (show FVec Ideal S24 .f32 from V0 (Proc.tc.devRef main_arg4)) (ix1 k)) *
      (show FVec Ideal S24x3 .f32 from V0 (Proc.tc.devRef main_arg5)) (ix2 k i) +
    (show FVec Ideal S3 .f32 from V0 (Proc.tc.devRef main_arg6)) (ix1 i) := by
  unfold code
  pointwise [res_main_v15]

/-- The table of angular neighbours. -/
theorem ang_table (i j : Fin 4) : lit2 (S4x4.rowMajor (ix2 i j)) = if (i.val + j.val) % 2 = 1 then 0x3F800000#32 else 0#32 := by
  revert i j; decide +kernel

/-- The table of radial neighbours. -/
theorem rad_table (i j : Fin 2) : lit3 (S2x2.rowMajor (ix2 i j)) = if (i.val + j.val) % 2 = 1 then 0x3F800000#32 else 0#32 := by
  revert i j; decide +kernel

/-- One angular weight before its row is divided by its sum. -/
theorem ang_raw (i j : Fin 4) : res_main_v98 (F := Ideal) V0 (ix2 i j) =
    Weights.raw (fun k => (show FVec Ideal S4 .f32 from V0 (Proc.tc.devRef main_arg11)) (ix1 k)) i j := by
  unfold res_main_v98 res_main_v91
  generalize V0 (Proc.tc.devRef main_arg11) = x
  revert x
  intro (x : FVec Ideal S4 .f32)
  have hf : Finset.fold (max : EReal → EReal → EReal) (Ideal.ofBits .f32 0xFF800000#32) x (Finset.univ.filter fun i => reducesTo_S4_S_d0.drop i = ix0) =
      Finset.fold max (Ideal.ofBits .f32 0xFF800000#32) (fun k => x (ix1 k)) Finset.univ :=
    Shape.ReducesTo.fold_fiber_r1_a0 reducesTo_S4_S_d0 ix0 max (Ideal.ofBits .f32 0xFF800000#32) x
  pointwise
  rw [ang_table]
  unfold Weights.raw Weights.expo
  rw [← hf]
  rfl

/-- One radial weight before its row is divided by its sum. -/
theorem rad_raw (i j : Fin 2) : res_main_v121 (F := Ideal) V0 (ix2 i j) =
    Weights.raw (fun k => (show FVec Ideal S2 .f32 from V0 (Proc.tc.devRef main_arg12)) (ix1 k)) i j := by
  unfold res_main_v121 res_main_v114
  generalize V0 (Proc.tc.devRef main_arg12) = x
  revert x
  intro (x : FVec Ideal S2 .f32)
  have hf : Finset.fold (max : EReal → EReal → EReal) (Ideal.ofBits .f32 0xFF800000#32) x (Finset.univ.filter fun i => reducesTo_S2_S_d0.drop i = ix0) =
      Finset.fold max (Ideal.ofBits .f32 0xFF800000#32) (fun k => x (ix1 k)) Finset.univ :=
    Shape.ReducesTo.fold_fiber_r1_a0 reducesTo_S2_S_d0 ix0 max (Ideal.ofBits .f32 0xFF800000#32) x
  pointwise
  rw [rad_table]
  unfold Weights.raw Weights.expo
  rw [← hf]
  rfl

/-- One output of the reference: the network in its plain form. -/
theorem output (o : Fin 4) : val4 (F := Ideal) V0 (Proc.devRef .tc main_v152) (ix2 b o) =
    Net.answer (Net.hidden
        (Weights.weight fun k => (show FVec Ideal S4 .f32 from V0 (Proc.tc.devRef main_arg11)) (ix1 k))
        (Weights.weight fun k => (show FVec Ideal S2 .f32 from V0 (Proc.tc.devRef main_arg12)) (ix1 k))
        (feature (res_main_v25 (F := Ideal) V0 (ix1 b)) (res_main_v33 (F := Ideal) V0 (ix1 b)) (code V0 b))
        (fun d j => (show FVec Ideal S12x24 .f32 from V0 (Proc.tc.devRef main_arg7)) (ix2 d j))
        fun j => (show FVec Ideal S24 .f32 from V0 (Proc.tc.devRef main_arg8)) (ix1 j))
      (fun j e => (show FVec Ideal S24x12 .f32 from V0 (Proc.tc.devRef main_arg9)) (ix2 j e))
      (fun e => (show FVec Ideal S12 .f32 from V0 (Proc.tc.devRef main_arg10)) (ix1 e))
      (fun y k => (show FVec Ideal S96x24 .f32 from V0 (Proc.tc.devRef main_arg13)) (ix2 y k))
      (fun k => (show FVec Ideal S24 .f32 from V0 (Proc.tc.devRef main_arg14)) (ix1 k))
      (fun k o => (show FVec Ideal S24x4 .f32 from V0 (Proc.tc.devRef main_arg15)) (ix2 k o))
      (fun o => (show FVec Ideal S4 .f32 from V0 (Proc.tc.devRef main_arg16)) (ix1 o)) o := by
  rw [val4_main_v152]
  pointwise
  have fold : ∀ m d : ℕ, d < 12 → (m * 12 + d) / 12 = m := fun m d h => by omega
  simp only [nodes, ang_raw, rad_raw, fold, Fin.is_lt]
  rfl

end Cert.Proof.Refr

end
-- ==== Proof.Network.lean ====
/- The whole network on one row of the input, in its plain form, from the argument arrays. -/
module

public import proofs.«01_k».proof.Proof.Cells
public import proofs.«01_k».proof.Proof.Net
public import proofs.«01_k».proof.Proof.Weights

@[expose] public section

set_option maxRecDepth 16384

noncomputable section

open Idealize.ShloMosaic

namespace Cert.Proof.Network

open Cert.Proof.Cells

variable (a0 : FVec Ideal ⟨3, ![524288, 15, 4]⟩ .f32) (a1 : FVec Ideal ⟨2, ![4, 24]⟩ .f32) (a2 : FVec Ideal ⟨1, ![24]⟩ .f32)
  (a3 : FVec Ideal ⟨2, ![24, 24]⟩ .f32) (a4 : FVec Ideal ⟨1, ![24]⟩ .f32) (a5 : FVec Ideal ⟨2, ![24, 3]⟩ .f32)
  (a6 : FVec Ideal ⟨1, ![3]⟩ .f32) (a7 : FVec Ideal ⟨2, ![12, 24]⟩ .f32) (a8 : FVec Ideal ⟨1, ![24]⟩ .f32)
  (a9 : FVec Ideal ⟨2, ![24, 12]⟩ .f32) (a10 : FVec Ideal ⟨1, ![12]⟩ .f32) (a11 : FVec Ideal ⟨1, ![4]⟩ .f32)
  (a12 : FVec Ideal ⟨1, ![2]⟩ .f32) (a13 : FVec Ideal ⟨2, ![96, 24]⟩ .f32) (a14 : FVec Ideal ⟨1, ![24]⟩ .f32)
  (a15 : FVec Ideal ⟨2, ![24, 4]⟩ .f32) (a16 : FVec Ideal ⟨1, ![4]⟩ .f32)

/-- The encoder on the row's last time step. -/
def code (b : Fin 524288) (i : Fin 3) : EReal :=
  ∑ k : Fin 24, Ideal.tanh (∑ j : Fin 24, Ideal.tanh (∑ f : Fin 4, a0 (ix3 b 14 f) * a1 (ix2 f j) + a2 (ix1 j)) *
    a3 (ix2 j k) + a4 (ix1 k)) * a5 (ix2 k i) + a6 (ix1 i)

/-- The angular position on the grid: the angle as a share of the full turn, times four. -/
def turn (z : EReal) : EReal :=
  Ideal.div (z + Ideal.ofBits .f32 0x40490FDB#32) (Ideal.ofBits .f32 0x40C90FDB#32) * Ideal.ofBits .f32 0x40800000#32

/-- The network from the encoder's outputs. -/
def decode (z : Fin 3 → EReal) (o : Fin 4) : EReal :=
  Net.answer (Net.hidden (Weights.weight fun k => a11 (ix1 k)) (Weights.weight fun k => a12 (ix1 k))
      (feature (Ideal.logistic (z 0)) (turn (z 1)) z) (fun d j => a7 (ix2 d j)) fun j => a8 (ix1 j))
    (fun j e => a9 (ix2 j e)) (fun e => a10 (ix1 e)) (fun y k => a13 (ix2 y k)) (fun k => a14 (ix1 k))
    (fun k o => a15 (ix2 k o)) (fun o => a16 (ix1 o)) o

/-- The network's outputs, all rows. -/
def network : FVec Ideal ⟨2, ![524288, 4]⟩ .f32 :=
  fun y => decode a7 a8 a9 a10 a11 a12 a13 a14 a15 a16 (code a0 a1 a2 a3 a4 a5 a6 (y 0)) (y 1)

end Cert.Proof.Network

end
-- ==== Proof.Refs.lean ====
/- The reference's result is the network in its plain form. -/
module

public import proofs.«01_k».proof.Proof.Refr
public import proofs.«01_k».proof.Proof.Network

@[expose] public section

set_option maxRecDepth 16384

noncomputable section

open Idealize.ShloMosaic Idealize.ShloMosaic.TcCoe Idealize.SL.Sem
open Cert.ReferenceIdeal Cert.ReferenceIdeal.Gen Cert.ReferenceIdeal.Value

namespace Cert.Proof.Refr

/-- The reference's result array. -/
theorem result (V0 : Valuation τ sig (Elt Ideal)) : val4 (F := Ideal) V0 (Proc.devRef .tc main_v152) =
    Network.network (V0 (Proc.tc.devRef main_arg0)) (V0 (Proc.tc.devRef main_arg1)) (V0 (Proc.tc.devRef main_arg2))
      (V0 (Proc.tc.devRef main_arg3)) (V0 (Proc.tc.devRef main_arg4)) (V0 (Proc.tc.devRef main_arg5))
      (V0 (Proc.tc.devRef main_arg6)) (V0 (Proc.tc.devRef main_arg7)) (V0 (Proc.tc.devRef main_arg8))
      (V0 (Proc.tc.devRef main_arg9)) (V0 (Proc.tc.devRef main_arg10)) (V0 (Proc.tc.devRef main_arg11))
      (V0 (Proc.tc.devRef main_arg12)) (V0 (Proc.tc.devRef main_arg13)) (V0 (Proc.tc.devRef main_arg14))
      (V0 (Proc.tc.devRef main_arg15)) (V0 (Proc.tc.devRef main_arg16)) := by
  have hc : ∀ b : Fin 524288, code V0 b = Network.code (V0 (Proc.tc.devRef main_arg0)) (V0 (Proc.tc.devRef main_arg1))
      (V0 (Proc.tc.devRef main_arg2)) (V0 (Proc.tc.devRef main_arg3)) (V0 (Proc.tc.devRef main_arg4))
      (V0 (Proc.tc.devRef main_arg5)) (V0 (Proc.tc.devRef main_arg6)) b := fun b => funext fun i => encoder V0 b i
  funext y
  idx_vars y
  refine (output V0 y0 y1).trans ?_
  rw [radius, angle, hc]
  rfl

end Cert.Proof.Refr

end
-- ==== Proof.Kern.lean ====
/- The kernel body's values at one index of a block, in the scalars of `Cells`. -/
module

public import proofs.«01_k».proof.Proof.Gen.KernelIdeal.Skeleton
public import proofs.«01_k».proof.Proof.Cells

@[expose] public section

set_option maxRecDepth 16384

noncomputable section

open Idealize.ShloMosaic Idealize.ShloMosaic.TcCoe Idealize.SL.Sem
open Cert.KernelIdeal Cert.KernelIdeal.Gen
namespace Cert.Proof.Kern

open Cert.Proof.Cells

variable (v0 : FVec Ideal S4x2048 .f32) (v2 : FVec Ideal S24x4 .f32) (v5 : FVec Ideal S24x1 .f32) (v10 : FVec Ideal S24x24 .f32) (v13 : FVec Ideal S24x1 .f32) (v18 : FVec Ideal S3x24 .f32) (v21 : FVec Ideal S3x1 .f32)

/-- The encoder's outputs of one column: three layers, the first two through the hyperbolic tangent. -/
theorem encoder (i : Fin 3) (t : Fin 2048) :
    k0_pay2 (F := Ideal) v0 v2 v5 v10 v13 v18 v21 (ix2 i t) =
      ∑ k : Fin 24, v18 (ix2 i k) * Ideal.tanh (∑ j : Fin 24, v10 (ix2 k j) *
        Ideal.tanh (∑ f : Fin 4, v2 (ix2 j f) * v0 (ix2 f t) + v5 (ix2 j 0)) + v13 (ix2 k 0)) + v21 (ix2 i 0) := by
  pointwise [k0_pay2]

/-- The radial position. -/
theorem radial (t : Fin 2048) :
    k0_pay3 (F := Ideal) v0 v2 v5 v10 v13 v18 v21 (ix2 0 t) = Ideal.logistic (k0_pay2 (F := Ideal) v0 v2 v5 v10 v13 v18 v21 (ix2 0 t)) := by
  pointwise [k0_pay3]

/-- The angular position. -/
theorem angular (t : Fin 2048) :
    k0_pay4 (F := Ideal) v0 v2 v5 v10 v13 v18 v21 (ix2 0 t) =
      (k0_pay2 (F := Ideal) v0 v2 v5 v10 v13 v18 v21 (ix2 1 t) + Ideal.ofBits .f32 0x40490FDB#32) *
        Named.named (F := Ideal) κ "two_over_pi" 0x3F22F983#32 := by
  pointwise [k0_pay4]

/-- The radial position's rest, from the three vectors the cut is selected from. -/
theorem radial_rest (t : Fin 2048) :
    k0_pay10 (F := Ideal) (k0_pay3 (F := Ideal) v0 v2 v5 v10 v13 v18 v21) (k0_pay5 (F := Ideal) v0 v2 v5 v10 v13 v18 v21) (k0_pay6 (F := Ideal) v0 v2 v5 v10 v13 v18 v21) (k0_pay7 (F := Ideal) v0 v2 v5 v10 v13 v18 v21) (ix2 0 t) =
      rest (k0_pay3 (F := Ideal) v0 v2 v5 v10 v13 v18 v21 (ix2 0 t)) := by
  pointwise [k0_pay10, k0_pay8, k0_pay5, k0_pay6, k0_pay7, rest, cut]

/-- The radial position's whole part. -/
theorem radial_whole (t : Fin 2048) :
    k0_pay12 (F := Ideal) (k0_pay5 (F := Ideal) v0 v2 v5 v10 v13 v18 v21) (k0_pay6 (F := Ideal) v0 v2 v5 v10 v13 v18 v21) (k0_pay7 (F := Ideal) v0 v2 v5 v10 v13 v18 v21) (ix2 0 t) =
      whole (k0_pay3 (F := Ideal) v0 v2 v5 v10 v13 v18 v21 (ix2 0 t)) := by
  pointwise [k0_pay12, k0_pay8, k0_pay5, k0_pay6, k0_pay7, whole, cut]

/-- The angular position's rest. -/
theorem angular_rest (v33 : FVec Ideal S1x2048 .f32) (t : Fin 2048) :
    k0_pay11 (F := Ideal) v33 (ix2 0 t) = rest (v33 (ix2 0 t)) := by
  pointwise [k0_pay11, k0_pay9, rest, cut]

/-- The angular position's whole part. -/
theorem angular_whole (v33 : FVec Ideal S1x2048 .f32) (t : Fin 2048) :
    k0_pay13 (F := Ideal) v33 (ix2 0 t) = whole (v33 (ix2 0 t)) := by
  pointwise [k0_pay13, k0_pay9, whole, cut]

variable (v44 v45 : FVec Ideal S1x2048 .f32) (v46 v47 : IVec S1x2048 32)

variable (v28 v33 v36 v37 : FVec Ideal S1x2048 .f32) (v35 : IVec S1x2048 1) (r p : EReal) (n : Fin 8) (t : Fin 2048)

/-- The first corner's weight. -/
theorem weight_zero (h44 : k0_pay10 (F := Ideal) v28 v35 v36 v37 (ix2 0 t) = rest r) (h45 : k0_pay11 (F := Ideal) v33 (ix2 0 t) = rest p) :
    k0_pay16 (F := Ideal) v28 v33 v35 v36 v37 (ix2 0 t) = weight r p 0 := by
  pointwise [k0_pay16, h44, h45]
  rfl

/-- The first corner's indicator. -/
theorem hit_zero (h44 : k0_pay10 (F := Ideal) v28 v35 v36 v37 (ix2 0 t) = rest r) (h45 : k0_pay11 (F := Ideal) v33 (ix2 0 t) = rest p)
    (h46 : k0_pay12 (F := Ideal) v35 v36 v37 (ix2 0 t) = whole r) (h47 : k0_pay13 (F := Ideal) v33 (ix2 0 t) = whole p) :
    k0_pay20 (iota .tc S8x2048 32 [0] iota_S8x2048_d0_w32) (k0_pay17 (F := Ideal) v28 v33 v35 v36 v37) (k0_pay18 (F := Ideal) v33)
      (k0_pay19 (F := Ideal) v35 v36 v37) (ix2 n t) = hit r p n 0 := by
  pointwise [k0_pay20, k0_pay17, k0_pay18, k0_pay19, h46, h47, weight_zero v28 v33 v36 v37 v35 r p t h44 h45]
  simp only [divisor, four_slt, xori_zero, remsi_four]
  rfl

/-- The second corner's weight. -/
theorem weight_one (h44 : v44 (ix2 0 t) = rest r) (h45 : v45 (ix2 0 t) = rest p) : k0_pay23 (F := Ideal) v44 v45 (ix2 0 t) = weight r p 1 := by
  pointwise [k0_pay23, h44, h45]
  rfl

/-- The second corner's indicator. -/
theorem hit_one (h44 : v44 (ix2 0 t) = rest r) (h45 : v45 (ix2 0 t) = rest p)
    (h46 : v46 (ix2 0 t) = whole r) (h47 : v47 (ix2 0 t) = whole p) :
    k0_pay26 (iota .tc S8x2048 32 [0] iota_S8x2048_d0_w32) (k0_pay24 (F := Ideal) v44 v45) (k0_pay25 v46 v47) (ix2 n t) = hit r p n 1 := by
  pointwise [k0_pay26, k0_pay24, k0_pay25, h46, h47, weight_one v44 v45 r p t h44 h45]
  simp only [divisor, four_slt, xori_zero, remsi_four]
  rfl

/-- The third corner's weight. -/
theorem weight_two (h44 : v44 (ix2 0 t) = rest r) (h45 : v45 (ix2 0 t) = rest p) : k0_pay29 (F := Ideal) v44 v45 (ix2 0 t) = weight r p 2 := by
  pointwise [k0_pay29, h44, h45]
  rfl

/-- The third corner's indicator. -/
theorem hit_two (h44 : v44 (ix2 0 t) = rest r) (h45 : v45 (ix2 0 t) = rest p)
    (h46 : v46 (ix2 0 t) = whole r) (h47 : v47 (ix2 0 t) = whole p) :
    k0_pay32 (k0_pay30 v46 v47 (iota .tc S8x2048 32 [0] iota_S8x2048_d0_w32)) (k0_pay31 (F := Ideal) v44 v45) (ix2 n t) = hit r p n 2 := by
  pointwise [k0_pay32, k0_pay30, k0_pay31, h46, h47, weight_two v44 v45 r p t h44 h45]
  simp only [divisor, four_slt, xori_zero, remsi_four]
  rfl

/-- The fourth corner's weight. -/
theorem weight_three (h44 : v44 (ix2 0 t) = rest r) (h45 : v45 (ix2 0 t) = rest p) : k0_pay35 (F := Ideal) v44 v45 (ix2 0 t) = weight r p 3 := by
  pointwise [k0_pay35, h44, h45]
  rfl

/-- The fourth corner's indicator. -/
theorem hit_three (h44 : v44 (ix2 0 t) = rest r) (h45 : v45 (ix2 0 t) = rest p)
    (h46 : v46 (ix2 0 t) = whole r) (h47 : v47 (ix2 0 t) = whole p) :
    k0_pay36 (F := Ideal) v44 v45 v46 v47 (iota .tc S8x2048 32 [0] iota_S8x2048_d0_w32) (ix2 n t) = hit r p n 3 := by
  pointwise [k0_pay36, h46, h47, weight_three v44 v45 r p t h44 h45]
  simp only [divisor, four_slt, xori_zero, remsi_four]
  rfl

/-- The first three corners that fall on a node, counted. -/
theorem tally_three (h44 : v44 (ix2 0 t) = rest r) (h45 : v45 (ix2 0 t) = rest p)
    (h46 : v46 (ix2 0 t) = whole r) (h47 : v47 (ix2 0 t) = whole p)
    (v57 : IVec S1x2048 1) (v79 v81 : IVec S1x2048 32)
    (h0 : k0_pay20 (iota .tc S8x2048 32 [0] iota_S8x2048_d0_w32) v57 v79 v81 (ix2 n t) = hit r p n 0) :
    k0_pay33 (F := Ideal) (k0_pay27 (F := Ideal) (iota .tc S8x2048 32 [0] iota_S8x2048_d0_w32) (k0_pay21 (F := Ideal) (iota .tc S8x2048 32 [0] iota_S8x2048_d0_w32) k0_pay14 v57 v79 v81)
        (k0_pay24 (F := Ideal) v44 v45) (k0_pay25 v46 v47))
      (k0_pay30 v46 v47 (iota .tc S8x2048 32 [0] iota_S8x2048_d0_w32)) (k0_pay31 (F := Ideal) v44 v45) (ix2 n t) =
      Scalar.select (hit r p n 0) (1 : EReal) 0 + Scalar.select (hit r p n 1) (1 : EReal) 0 +
        Scalar.select (hit r p n 2) (1 : EReal) 0 := by
  pointwise [k0_pay33, k0_pay27, k0_pay21, k0_pay14, h0, hit_one v44 v45 v46 v47 r p n t h44 h45 h46 h47,
    hit_two v44 v45 v46 v47 r p n t h44 h45 h46 h47]

/-- The first three corners that fall on a node, their weights added. -/
theorem mass_three (h44 : v44 (ix2 0 t) = rest r) (h45 : v45 (ix2 0 t) = rest p)
    (h46 : v46 (ix2 0 t) = whole r) (h47 : v47 (ix2 0 t) = whole p)
    (v57 : IVec S1x2048 1) (v79 v81 : IVec S1x2048 32) (v55 : FVec Ideal S1x2048 .f32)
    (h0 : k0_pay20 (iota .tc S8x2048 32 [0] iota_S8x2048_d0_w32) v57 v79 v81 (ix2 n t) = hit r p n 0) (h55 : v55 (ix2 0 t) = weight r p 0) :
    k0_pay34 (F := Ideal) (k0_pay28 (F := Ideal) (iota .tc S8x2048 32 [0] iota_S8x2048_d0_w32) (k0_pay22 (F := Ideal) (iota .tc S8x2048 32 [0] iota_S8x2048_d0_w32) k0_pay15 v55 v57 v79 v81)
        (k0_pay23 (F := Ideal) v44 v45) (k0_pay24 (F := Ideal) v44 v45) (k0_pay25 v46 v47))
      (k0_pay29 (F := Ideal) v44 v45) (k0_pay30 v46 v47 (iota .tc S8x2048 32 [0] iota_S8x2048_d0_w32)) (k0_pay31 (F := Ideal) v44 v45) (ix2 n t) =
      Scalar.select (hit r p n 0) (weight r p 0) (0 : EReal) + Scalar.select (hit r p n 1) (weight r p 1) (0 : EReal) +
        Scalar.select (hit r p n 2) (weight r p 2) (0 : EReal) := by
  pointwise [k0_pay34, k0_pay28, k0_pay22, k0_pay15, h0, h55, hit_one v44 v45 v46 v47 r p n t h44 h45 h46 h47,
    hit_two v44 v45 v46 v47 r p n t h44 h45 h46 h47, weight_one v44 v45 r p t h44 h45, weight_two v44 v45 r p t h44 h45]

/-- The readout of one column: the node features spread over ninety-six rows, the two node layers and the readout's
    two layers, each through its prepared matrix. -/
theorem readout (h44 : v44 (ix2 0 t) = rest r) (h45 : v45 (ix2 0 t) = rest p)
    (h46 : v46 (ix2 0 t) = whole r) (h47 : v47 (ix2 0 t) = whole p) (o : Fin 4) (v24 : FVec Ideal S3x2048 .f32)
    (v176 v181 : FVec Ideal S8x2048 .f32) (v223 : FVec Ideal S96x8 .f32)
    (v225 : FVec Ideal S96x3 .f32) (v228 : FVec Ideal S96x8 .f32) (v231 : FVec Ideal S192x96 .f32)
    (v234 : FVec Ideal S192x1 .f32) (v239 : FVec Ideal S24x192 .f32) (v242 : FVec Ideal S24x1 .f32)
    (v247 : FVec Ideal S4x24 .f32) (v250 : FVec Ideal S4x1 .f32)
    (h176 : ∀ n : Fin 8, v176 (ix2 n t) = Scalar.select (hit r p n 0) (1 : EReal) 0 +
      Scalar.select (hit r p n 1) (1 : EReal) 0 + Scalar.select (hit r p n 2) (1 : EReal) 0)
    (h181 : ∀ n : Fin 8, v181 (ix2 n t) = Scalar.select (hit r p n 0) (weight r p 0) (0 : EReal) +
      Scalar.select (hit r p n 1) (weight r p 1) (0 : EReal) + Scalar.select (hit r p n 2) (weight r p 2) (0 : EReal)) :
    k0_pay1 (F := Ideal) (k0_pay39 (F := Ideal) v24 v176 v181 (k0_pay35 (F := Ideal) v44 v45)
        (k0_pay36 (F := Ideal) v44 v45 v46 v47 (iota .tc S8x2048 32 [0] iota_S8x2048_d0_w32)) k0_pay37 k0_pay38 v223 v225 v228 v231 v234 v239 v242 v247) v250 (ix2 o t) =
      ∑ k : Fin 24, v247 (ix2 o k) * Ideal.tanh (∑ q : Fin 192, v239 (ix2 k q) * Ideal.tanh (∑ x : Fin 96, v231 (ix2 q x) *
        ((∑ n : Fin 8, v223 (ix2 x n) * tally r p n) * ∑ i : Fin 3, v225 (ix2 x i) * v24 (ix2 i t) +
          ∑ n : Fin 8, v228 (ix2 x n) * mass r p n) + v234 (ix2 q 0)) + v242 (ix2 k 0)) + v250 (ix2 o 0) := by
  pointwise [k0_pay39, k0_pay37, k0_pay38, k0_pay1, h176, h181, weight_three v44 v45 r p t h44 h45]
  simp only [hit_three v44 v45 v46 v47 r p _ t h44 h45 h46 h47, tally, mass, Fin.sum_univ_four]

/-- The encoder of one column, from its four inputs and the transposed weights. -/
def enc (x1 : FVec Ideal S24x4 .f32) (x2 : FVec Ideal S24x1 .f32) (x3 : FVec Ideal S24x24 .f32)
    (x4 : FVec Ideal S24x1 .f32) (x5 : FVec Ideal S3x24 .f32) (x6 : FVec Ideal S3x1 .f32) (xi : Fin 4 → EReal)
    (i : Fin 3) : EReal :=
  ∑ k : Fin 24, x5 (ix2 i k) * Ideal.tanh (∑ j : Fin 24, x3 (ix2 k j) *
    Ideal.tanh (∑ f : Fin 4, x1 (ix2 j f) * xi f + x2 (ix2 j 0)) + x4 (ix2 k 0)) + x6 (ix2 i 0)

/-- The angular position, from the encoder's second output. -/
def spot (z : EReal) : EReal :=
  (z + Ideal.ofBits .f32 0x40490FDB#32) * Named.named (F := Ideal) κ "two_over_pi" (φ := .f32) 0x3F22F983#32

/-- One output of one column, from the encoder's outputs and the prepared matrices. -/
def out (x7 : FVec Ideal S96x8 .f32) (x8 : FVec Ideal S96x3 .f32) (x9 : FVec Ideal S96x8 .f32)
    (x10 : FVec Ideal S192x96 .f32) (x11 : FVec Ideal S192x1 .f32) (x12 : FVec Ideal S24x192 .f32)
    (x13 : FVec Ideal S24x1 .f32) (x14 : FVec Ideal S4x24 .f32) (x15 : FVec Ideal S4x1 .f32) (z : Fin 3 → EReal)
    (o : Fin 4) : EReal :=
  ∑ k : Fin 24, x14 (ix2 o k) * Ideal.tanh (∑ q : Fin 192, x12 (ix2 k q) * Ideal.tanh (∑ x : Fin 96, x10 (ix2 q x) *
    ((∑ n : Fin 8, x7 (ix2 x n) * tally (Ideal.logistic (z 0)) (spot (z 1)) n) * ∑ i : Fin 3, x8 (ix2 x i) * z i +
      ∑ n : Fin 8, x9 (ix2 x n) * mass (Ideal.logistic (z 0)) (spot (z 1)) n) + x11 (ix2 q 0)) + x13 (ix2 k 0)) +
    x15 (ix2 o 0)

variable (x7 : FVec Ideal S96x8 .f32) (x8 : FVec Ideal S96x3 .f32) (x9 : FVec Ideal S96x8 .f32)
    (x10 : FVec Ideal S192x96 .f32) (x11 : FVec Ideal S192x1 .f32) (x12 : FVec Ideal S24x192 .f32)
    (x13 : FVec Ideal S24x1 .f32) (x14 : FVec Ideal S4x24 .f32) (x15 : FVec Ideal S4x1 .f32)

set_option maxHeartbeats 1000000 in
/-- What the body stores, at one output of one column. -/
theorem column (o : Fin 4) (t : Fin 2048) (v28 : FVec Ideal S1x2048 .f32) (v33 : FVec Ideal S1x2048 .f32)
    (v35 : IVec S1x2048 1) (v36 v37 v44 v45 : FVec Ideal S1x2048 .f32) (v46 v47 : IVec S1x2048 32)
    (h28 : v28 = k0_pay3 (F := Ideal) v0 v2 v5 v10 v13 v18 v21) (h33 : v33 = k0_pay4 (F := Ideal) v0 v2 v5 v10 v13 v18 v21)
    (h35 : v35 = k0_pay5 (F := Ideal) v0 v2 v5 v10 v13 v18 v21) (h36 : v36 = k0_pay6 (F := Ideal) v0 v2 v5 v10 v13 v18 v21) (h37 : v37 = k0_pay7 (F := Ideal) v0 v2 v5 v10 v13 v18 v21)
    (h44 : v44 = k0_pay10 (F := Ideal) v28 v35 v36 v37) (h45 : v45 = k0_pay11 (F := Ideal) v33)
    (h46 : v46 = k0_pay12 (F := Ideal) v35 v36 v37) (h47 : v47 = k0_pay13 (F := Ideal) v33) :
    k0_pay1 (F := Ideal) (k0_pay39 (F := Ideal) (k0_pay2 (F := Ideal) v0 v2 v5 v10 v13 v18 v21)
        (k0_pay33 (F := Ideal) (k0_pay27 (F := Ideal) (iota .tc S8x2048 32 [0] iota_S8x2048_d0_w32) (k0_pay21 (F := Ideal) (iota .tc S8x2048 32 [0] iota_S8x2048_d0_w32) k0_pay14
            (k0_pay17 (F := Ideal) v28 v33 v35 v36 v37) (k0_pay18 (F := Ideal) v33) (k0_pay19 (F := Ideal) v35 v36 v37))
            (k0_pay24 (F := Ideal) v44 v45) (k0_pay25 v46 v47))
          (k0_pay30 v46 v47 (iota .tc S8x2048 32 [0] iota_S8x2048_d0_w32)) (k0_pay31 (F := Ideal) v44 v45))
        (k0_pay34 (F := Ideal) (k0_pay28 (F := Ideal) (iota .tc S8x2048 32 [0] iota_S8x2048_d0_w32) (k0_pay22 (F := Ideal) (iota .tc S8x2048 32 [0] iota_S8x2048_d0_w32) k0_pay15
            (k0_pay16 (F := Ideal) v28 v33 v35 v36 v37) (k0_pay17 (F := Ideal) v28 v33 v35 v36 v37)
            (k0_pay18 (F := Ideal) v33) (k0_pay19 (F := Ideal) v35 v36 v37))
            (k0_pay23 (F := Ideal) v44 v45) (k0_pay24 (F := Ideal) v44 v45) (k0_pay25 v46 v47))
          (k0_pay29 (F := Ideal) v44 v45) (k0_pay30 v46 v47 (iota .tc S8x2048 32 [0] iota_S8x2048_d0_w32)) (k0_pay31 (F := Ideal) v44 v45))
        (k0_pay35 (F := Ideal) v44 v45) (k0_pay36 (F := Ideal) v44 v45 v46 v47 (iota .tc S8x2048 32 [0] iota_S8x2048_d0_w32)) k0_pay37 k0_pay38
        x7 x8 x9 x10 x11 x12 x13 x14) x15 (ix2 o t) =
      out x7 x8 x9 x10 x11 x12 x13 x14 x15 (enc v2 v5 v10 v13 v18 v21 fun f => v0 (ix2 f t)) o := by
  have hz : ∀ i, k0_pay2 (F := Ideal) v0 v2 v5 v10 v13 v18 v21 (ix2 i t) = enc v2 v5 v10 v13 v18 v21 (fun f => v0 (ix2 f t)) i :=
    fun i => encoder v0 v2 v5 v10 v13 v18 v21 i t
  generalize enc v2 v5 v10 v13 v18 v21 (fun f => v0 (ix2 f t)) = z at hz
  have hr : v28 (ix2 0 t) = Ideal.logistic (z 0) := by rw [h28, radial, hz]
  have hp : v33 (ix2 0 t) = spot (z 1) := by rw [h33, angular, hz]; rfl
  have e44 : v44 (ix2 0 t) = rest (Ideal.logistic (z 0)) := by rw [h44, ← hr, h28, h35, h36, h37]; exact radial_rest v0 v2 v5 v10 v13 v18 v21 t
  have e45 : v45 (ix2 0 t) = rest (spot (z 1)) := by rw [h45, angular_rest, hp]
  have e46 : v46 (ix2 0 t) = whole (Ideal.logistic (z 0)) := by rw [h46, ← hr, h28, h35, h36, h37]; exact radial_whole v0 v2 v5 v10 v13 v18 v21 t
  have e47 : v47 (ix2 0 t) = whole (spot (z 1)) := by rw [h47, angular_whole, hp]
  have c44 := h44 ▸ e44
  have c45 := h45 ▸ e45
  have c46 := h46 ▸ e46
  have c47 := h47 ▸ e47
  rw [readout v44 v45 v46 v47 (Ideal.logistic (z 0)) (spot (z 1)) t e44 e45 e46 e47 o _ _ _ x7 x8 x9 x10 x11 x12 x13 x14 x15
    (fun n => tally_three v44 v45 v46 v47 _ _ n t e44 e45 e46 e47 _ _ _ (hit_zero v28 v33 v36 v37 v35 _ _ n t c44 c45 c46 c47))
    (fun n => mass_three v44 v45 v46 v47 _ _ n t e44 e45 e46 e47 _ _ _ _ (hit_zero v28 v33 v36 v37 v35 _ _ n t c44 c45 c46 c47)
      (weight_zero v28 v33 v36 v37 v35 _ _ t c44 c45))]
  simp only [hz, out]

end Cert.Proof.Kern

end
-- ==== Proof.Final.lean ====
/- The array the kernel leaves, from the arrays its windows read. -/
module

public import proofs.«01_k».proof.Proof.Gen.KernelIdeal.Frame
public import proofs.«01_k».proof.Proof.Kern
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Proof.Kern

variable (m : (l : Loc nD τ sig) → Buf (Elt Ideal) l)

/-- Which block each window holds at each grid point. -/
theorem idx : ∀ t : Fin cfg0.N, win0_0.index t = ![0, t.val] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![0, 0] ∧ win0_9.index t = ![0, 0] ∧ win0_10.index t = ![0, 0] ∧
    win0_11.index t = ![0, 0] ∧ win0_12.index t = ![0, 0] ∧ win0_13.index t = ![0, 0] ∧ win0_14.index t = ![0, 0] ∧
    win0_15.index t = ![0, 0] ∧ win0_16.index t = ![0, t.val] :=
  (by decide +kernel : ∀ t : Fin grid0.N, _)

/-- The array the kernel leaves, transposed as it leaves it: each output of each column. -/
def outT (x0 : FVec Ideal S4x524288 .f32) (x1 : FVec Ideal S24x4 .f32) (x2 : FVec Ideal S24x1 .f32) (x3 : FVec Ideal S24x24 .f32)
    (x4 : FVec Ideal S24x1 .f32) (x5 : FVec Ideal S3x24 .f32) (x6 : FVec Ideal S3x1 .f32)
    (x7 : FVec Ideal S96x8 .f32) (x8 : FVec Ideal S96x3 .f32) (x9 : FVec Ideal S96x8 .f32)
    (x10 : FVec Ideal S192x96 .f32) (x11 : FVec Ideal S192x1 .f32) (x12 : FVec Ideal S24x192 .f32)
    (x13 : FVec Ideal S24x1 .f32) (x14 : FVec Ideal S4x24 .f32) (x15 : FVec Ideal S4x1 .f32) : FVec Ideal S4x524288 .f32 :=
  fun y => out x7 x8 x9 x10 x11 x12 x13 x14 x15 (enc x1 x2 x3 x4 x5 x6 fun f => x0 (ix2 f (y 1))) (y 0)

/-- The radial position, at the blocks of one grid point. -/
theorem open_40 (c : Dev nD) (t : Fin cfg0.N) :
    k0_pay40 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) =
      k0_pay3 (F := Ideal) (iblk m c 0 t) (iblk m c 1 t) (iblk m c 2 t) (iblk m c 3 t) (iblk m c 4 t) (iblk m c 5 t) (iblk m c 6 t) := by
  unfold k0_pay40
  frame_out

/-- The angular position, at the blocks of one grid point. -/
theorem open_41 (c : Dev nD) (t : Fin cfg0.N) :
    k0_pay41 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) =
      k0_pay4 (F := Ideal) (iblk m c 0 t) (iblk m c 1 t) (iblk m c 2 t) (iblk m c 3 t) (iblk m c 4 t) (iblk m c 5 t) (iblk m c 6 t) := by
  unfold k0_pay41
  frame_out

/-- The radial position's sign, at the blocks of one grid point. -/
theorem open_42 (c : Dev nD) (t : Fin cfg0.N) :
    k0_pay42 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) =
      k0_pay5 (F := Ideal) (iblk m c 0 t) (iblk m c 1 t) (iblk m c 2 t) (iblk m c 3 t) (iblk m c 4 t) (iblk m c 5 t) (iblk m c 6 t) := by
  unfold k0_pay42
  frame_out

/-- The radial position rounded up, at the blocks of one grid point. -/
theorem open_43 (c : Dev nD) (t : Fin cfg0.N) :
    k0_pay43 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) =
      k0_pay6 (F := Ideal) (iblk m c 0 t) (iblk m c 1 t) (iblk m c 2 t) (iblk m c 3 t) (iblk m c 4 t) (iblk m c 5 t) (iblk m c 6 t) := by
  unfold k0_pay43
  frame_out

/-- The radial position rounded down, at the blocks of one grid point. -/
theorem open_44 (c : Dev nD) (t : Fin cfg0.N) :
    k0_pay44 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) =
      k0_pay7 (F := Ideal) (iblk m c 0 t) (iblk m c 1 t) (iblk m c 2 t) (iblk m c 3 t) (iblk m c 4 t) (iblk m c 5 t) (iblk m c 6 t) := by
  unfold k0_pay44
  frame_out

/-- Column `y1` of the first window's block is column `2048 t + y1` of its array. -/
theorem block_0 (c : Dev nD) (t : Fin cfg0.N) (f : Fin 4) (y1 : Fin 2048) (b : Fin 524288) (hb : b.val = t.val * 2048 + y1.val) :
    (show FVec Ideal S4x2048 .f32 from iblk m c 0 t) (ix2 f y1) = (show FVec Ideal S4x524288 .f32 from V m c main_v2) (ix2 f b) := by
  blk_ext [iblk, idx t]

/-- Window 1's one block is its whole array. -/
theorem block_1 (c : Dev nD) (t : Fin cfg0.N) :
    (show FVec Ideal S24x4 .f32 from iblk m c 1 t) = (show FVec Ideal S24x4 .f32 from V m c main_v101) := by
  funext y
  blk_ext [iblk, idx t]

/-- Window 2's one block is its whole array. -/
theorem block_2 (c : Dev nD) (t : Fin cfg0.N) :
    (show FVec Ideal S24x1 .f32 from iblk m c 2 t) = (show FVec Ideal S24x1 .f32 from V m c main_v102) := by
  funext y
  blk_ext [iblk, idx t]

/-- Window 3's one block is its whole array. -/
theorem block_3 (c : Dev nD) (t : Fin cfg0.N) :
    (show FVec Ideal S24x24 .f32 from iblk m c 3 t) = (show FVec Ideal S24x24 .f32 from V m c main_v103) := by
  funext y
  blk_ext [iblk, idx t]

/-- Window 4's one block is its whole array. -/
theorem block_4 (c : Dev nD) (t : Fin cfg0.N) :
    (show FVec Ideal S24x1 .f32 from iblk m c 4 t) = (show FVec Ideal S24x1 .f32 from V m c main_v104) := by
  funext y
  blk_ext [iblk, idx t]

/-- Window 5's one block is its whole array. -/
theorem block_5 (c : Dev nD) (t : Fin cfg0.N) :
    (show FVec Ideal S3x24 .f32 from iblk m c 5 t) = (show FVec Ideal S3x24 .f32 from V m c main_v105) := by
  funext y
  blk_ext [iblk, idx t]

/-- Window 6's one block is its whole array. -/
theorem block_6 (c : Dev nD) (t : Fin cfg0.N) :
    (show FVec Ideal S3x1 .f32 from iblk m c 6 t) = (show FVec Ideal S3x1 .f32 from V m c main_v106) := by
  funext y
  blk_ext [iblk, idx t]

/-- Window 7's one block is its whole array. -/
theorem block_7 (c : Dev nD) (t : Fin cfg0.N) :
    (show FVec Ideal S96x8 .f32 from iblk m c 7 t) = (show FVec Ideal S96x8 .f32 from V m c main_cst_1) := by
  funext y
  blk_ext [iblk, idx t]

/-- Window 8's one block is its whole array. -/
theorem block_8 (c : Dev nD) (t : Fin cfg0.N) :
    (show FVec Ideal S96x3 .f32 from iblk m c 8 t) = (show FVec Ideal S96x3 .f32 from V m c main_cst_2) := by
  funext y
  blk_ext [iblk, idx t]

/-- Window 9's one block is its whole array. -/
theorem block_9 (c : Dev nD) (t : Fin cfg0.N) :
    (show FVec Ideal S96x8 .f32 from iblk m c 9 t) = (show FVec Ideal S96x8 .f32 from V m c main_cst_3) := by
  funext y
  blk_ext [iblk, idx t]

/-- Window 10's one block is its whole array. -/
theorem block_10 (c : Dev nD) (t : Fin cfg0.N) :
    (show FVec Ideal S192x96 .f32 from iblk m c 10 t) = (show FVec Ideal S192x96 .f32 from V m c main_v79) := by
  funext y
  blk_ext [iblk, idx t]

/-- Window 11's one block is its whole array. -/
theorem block_11 (c : Dev nD) (t : Fin cfg0.N) :
    (show FVec Ideal S192x1 .f32 from iblk m c 11 t) = (show FVec Ideal S192x1 .f32 from V m c main_v83) := by
  funext y
  blk_ext [iblk, idx t]

/-- Window 12's one block is its whole array. -/
theorem block_12 (c : Dev nD) (t : Fin cfg0.N) :
    (show FVec Ideal S24x192 .f32 from iblk m c 12 t) = (show FVec Ideal S24x192 .f32 from V m c main_v92) := by
  funext y
  blk_ext [iblk, idx t]

/-- Window 13's one block is its whole array. -/
theorem block_13 (c : Dev nD) (t : Fin cfg0.N) :
    (show FVec Ideal S24x1 .f32 from iblk m c 13 t) = (show FVec Ideal S24x1 .f32 from V m c main_v98) := by
  funext y
  blk_ext [iblk, idx t]

/-- Window 14's one block is its whole array. -/
theorem block_14 (c : Dev nD) (t : Fin cfg0.N) :
    (show FVec Ideal S4x24 .f32 from iblk m c 14 t) = (show FVec Ideal S4x24 .f32 from V m c main_v99) := by
  funext y
  blk_ext [iblk, idx t]

/-- Window 15's one block is its whole array. -/
theorem block_15 (c : Dev nD) (t : Fin cfg0.N) :
    (show FVec Ideal S4x1 .f32 from iblk m c 15 t) = (show FVec Ideal S4x1 .f32 from V m c main_v100) := by
  funext y
  blk_ext [iblk, idx t]

set_option maxHeartbeats 1000000 in
/-- The array the kernel leaves, from the arrays its windows read. -/
theorem final (c : Dev nD) : (dats m 0 c).arrAt 16 (cfgs 0).N =
    outT (V m c main_v2) (V m c main_v101) (V m c main_v102) (V m c main_v103) (V m c main_v104) (V m c main_v105)
      (V m c main_v106) (V m c main_cst_1) (V m c main_cst_2) (V m c main_cst_3) (V m c main_v79) (V m c main_v83)
      (V m c main_v92) (V m c main_v98) (V m c main_v99) (V m c main_v100) := by
  refine (dats m 0 c).arrAt_eq_of_covers 16 _ (by decide +kernel) fun t _ y => ?_
  blk_simp
  rw [after0_16]
  frame_out
  idx_vars y
  refine (column (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t) y0 y1 _ _ _ _ _ _ _ _ _ (open_40 m c t) (open_41 m c t) (open_42 m c t)
    (open_43 m c t) (open_44 m c t) rfl rfl rfl rfl).trans ?_
  have hb : (((((View.whole main_v107).slice (win0_16.rect t)).emb (ix2 y0 y1)) 1 : Fin 524288) : ℕ) = t.val * 2048 + y1.val := by
    blk_simp [idx t]
  have ho : (((View.whole main_v107).slice (win0_16.rect t)).emb (ix2 y0 y1)) 0 = y0 := by
    refine Fin.ext ?_
    blk_simp [idx t]
  unfold outT
  rw [ho]
  have e1 := block_1 m c t
  have e2 := block_2 m c t
  have e3 := block_3 m c t
  have e4 := block_4 m c t
  have e5 := block_5 m c t
  have e6 := block_6 m c t
  have e7 := block_7 m c t
  have e8 := block_8 m c t
  have e9 := block_9 m c t
  have e10 := block_10 m c t
  have e11 := block_11 m c t
  have e12 := block_12 m c t
  have e13 := block_13 m c t
  have e14 := block_14 m c t
  have e15 := block_15 m c t
  simp only at e1 e2 e3 e4 e5 e6 e7 e8 e9 e10 e11 e12 e13 e14 e15
  have e0 : (fun f : Fin 4 => iblk m c 0 t (ix2 f y1)) = _ := funext fun f => block_0 m c t f y1 _ hb
  rw [e1, e2, e3, e4, e5, e6, e7, e8, e9, e10, e11, e12, e13, e14, e15]
  exact congrArg (fun z => out _ _ _ _ _ _ _ _ _ (enc _ _ _ _ _ _ z) y0) e0

end Cert.Proof.Kern

end
-- ==== Proof.Prep.lean ====
/- The operands the kernel's host line prepares: each buffer as a named term of the arguments, and its entries. -/
module

public import proofs.«01_k».proof.Proof.Gen.KernelIdeal.Frame
public import Idealize.ShloMosaic.Lib.Pointwise
public import Idealize.ShloMosaic.Lib.Claim

@[expose] public section

set_option maxRecDepth 16384

noncomputable section

open Idealize.ShloMosaic Idealize.ShloMosaic.TcCoe Idealize.SL.Sem
open Cert.KernelIdeal Cert.KernelIdeal.Gen

namespace Cert.Proof.Prep

/-- The exponentials of the angular logits less their largest. -/
def angExp (x : FVec Ideal S4 .f32) : FVec Ideal S4 .f32 :=
  Host.exp (subf x (broadcastInDim S4 ![0] bcast_S1_S4_0 (broadcastInDim S1 ![] bcast_S_S1
    (maximumf (constant S_ .f32 0xFF800000#32)
      (Host.reduce FloatOps.maximumf x (constant S_ .f32 0xFF800000#32) reducesTo_S4_S_d0 h_S_)))))

/-- The angular weights on the adjacent pairs, before each row is normalised. -/
def angRaw (x : FVec Ideal S4 .f32) : FVec Ideal S4x4 .f32 :=
  mulf (broadcastInDim S4x4 ![0, 1] bcast_S1x4_S4x4_0_1 (broadcastInDim S1x4 ![1] bcast_S4_S1x4_1
    (Host.divf (angExp x) (broadcastInDim S4 ![0] bcast_S1_S4_0 (broadcastInDim S1 ![] bcast_S_S1
      (Host.reduceAdd (angExp x) (constant S_ .f32 0x00000000#32) reducesTo_S4_S_d0 h_S_))))))
    (fun i => FloatOps.ofBits .f32 (lit0 (S4x4.rowMajor i)))

/-- The angular weights, each row divided by its sum. -/
def ang (x : FVec Ideal S4 .f32) : FVec Ideal S4x4 .f32 :=
  Host.divf (angRaw x) (broadcastInDim S4x4 ![0, 1] bcast_S4x1_S4x4_0_1
    (maximumf (broadcastInDim S4x1 ![0] bcast_S4_S4x1_0
      (Host.reduceAdd (angRaw x) (constant S_ .f32 0x00000000#32) reducesTo_S4x4_S4_d1 h_S_))
      (broadcastInDim S4x1 ![] bcast_S_S4x1 (constant S_ .f32 0x358637BD#32))))

/-- The exponentials of the radial logits less their largest. -/
def radExp (x : FVec Ideal S2 .f32) : FVec Ideal S2 .f32 :=
  Host.exp (subf x (broadcastInDim S2 ![0] bcast_S1_S2_0 (broadcastInDim S1 ![] bcast_S_S1
    (maximumf (constant S_ .f32 0xFF800000#32)
      (Host.reduce FloatOps.maximumf x (constant S_ .f32 0xFF800000#32) reducesTo_S2_S_d0 h_S_)))))

/-- The radial weights on the adjacent pairs, before each row is normalised. -/
def radRaw (x : FVec Ideal S2 .f32) : FVec Ideal S2x2 .f32 :=
  mulf (broadcastInDim S2x2 ![0, 1] bcast_S1x2_S2x2_0_1 (broadcastInDim S1x2 ![1] bcast_S2_S1x2_1
    (Host.divf (radExp x) (broadcastInDim S2 ![0] bcast_S1_S2_0 (broadcastInDim S1 ![] bcast_S_S1
      (Host.reduceAdd (radExp x) (constant S_ .f32 0x00000000#32) reducesTo_S2_S_d0 h_S_))))))
    (fun i => FloatOps.ofBits .f32 (lit1 (S2x2.rowMajor i)))

/-- The radial weights, each row divided by its sum. -/
def rad (x : FVec Ideal S2 .f32) : FVec Ideal S2x2 .f32 :=
  Host.divf (radRaw x) (broadcastInDim S2x2 ![0, 1] bcast_S2x1_S2x2_0_1
    (maximumf (broadcastInDim S2x1 ![0] bcast_S2_S2x1_0
      (Host.reduceAdd (radRaw x) (constant S_ .f32 0x00000000#32) reducesTo_S2x2_S2_d1 h_S_))
      (broadcastInDim S2x1 ![] bcast_S_S2x1 (constant S_ .f32 0x358637BD#32))))

/-- The Kronecker product of the transposed angular weights and the identity of order 24. -/
def angKron (a : FVec Ideal S4x4 .f32) : FVec Ideal S96x96 .f32 :=
  shapeCast S96x96 (mulf
    (broadcastInDim S4x24x4x24 ![0, 1, 2, 3] bcast_S4x1x4x1_S4x24x4x24_0_1_2_3
      (broadcastInDim S4x1x4x1 ![0, 2] bcast_S4x4_S4x1x4x1_0_2 (transpose S4x4 [1, 0] a transposes_S4x4_S4x4_1_0)))
    (broadcastInDim S4x24x4x24 ![0, 1, 2, 3] bcast_S1x24x1x24_S4x24x4x24_0_1_2_3
      (broadcastInDim S1x24x1x24 ![1, 3] bcast_S24x24_S1x24x1x24_1_3 (uitofp .f32 (cmpi .eq
        (addi (iotaInDim S24x24 32 0) (broadcastInDim S24x24 ![] bcast_S_S24x24 (constantI S_ 32 0#32)))
        (iotaInDim S24x24 32 1))))))
    shapeCasts_S4x24x4x24_S96x96

/-- The Kronecker product of the transposed radial weights and the identity of order 48. -/
def radKron (r : FVec Ideal S2x2 .f32) : FVec Ideal S96x96 .f32 :=
  shapeCast S96x96 (mulf
    (broadcastInDim S2x48x2x48 ![0, 1, 2, 3] bcast_S2x1x2x1_S2x48x2x48_0_1_2_3
      (broadcastInDim S2x1x2x1 ![0, 2] bcast_S2x2_S2x1x2x1_0_2 (transpose S2x2 [1, 0] r transposes_S2x2_S2x2_1_0)))
    (broadcastInDim S2x48x2x48 ![0, 1, 2, 3] bcast_S1x48x1x48_S2x48x2x48_0_1_2_3
      (broadcastInDim S1x48x1x48 ![1, 3] bcast_S48x48_S1x48x1x48_1_3 (uitofp .f32 (cmpi .eq
        (addi (iotaInDim S48x48 32 0) (broadcastInDim S48x48 ![] bcast_S_S48x48 (constantI S_ 32 0#32)))
        (iotaInDim S48x48 32 1))))))
    shapeCasts_S2x48x2x48_S96x96

/-- The mixing matrix: the identity and the two Kronecker products, added. -/
def mix (a : FVec Ideal S4x4 .f32) (r : FVec Ideal S2x2 .f32) : FVec Ideal S96x96 .f32 :=
  addf (addf (uitofp .f32 (cmpi .eq
    (addi (iotaInDim S96x96 32 0) (broadcastInDim S96x96 ![] bcast_S_S96x96 (constantI S_ 32 0#32)))
    (iotaInDim S96x96 32 1))) (angKron a)) (radKron r)

/-- The first node layer's weights once for each node: zero between different nodes. -/
def nodeBlocks (w : FVec Ideal S12x24 .f32) : FVec Ideal S8x12x192 .f32 :=
  shapeCast S8x12x192 (mulf
    (broadcastInDim S8x12x8x24 ![0, 1, 2, 3] bcast_S8x1x8x1_S8x12x8x24_0_1_2_3
      (broadcastInDim S8x1x8x1 ![0, 2] bcast_S8x8_S8x1x8x1_0_2 (uitofp .f32 (cmpi .eq
        (addi (iotaInDim S8x8 32 0) (broadcastInDim S8x8 ![] bcast_S_S8x8 (constantI S_ 32 0#32)))
        (iotaInDim S8x8 32 1)))))
    (broadcastInDim S8x12x8x24 ![0, 1, 2, 3] bcast_S1x12x1x24_S8x12x8x24_0_1_2_3
      (broadcastInDim S1x12x1x24 ![1, 3] bcast_S12x24_S1x12x1x24_1_3 w)))
    shapeCasts_S8x12x8x24_S8x12x192

/-- The mixing and the first node layer in one matrix, transposed. -/
def effective (x : FVec Ideal S96x96 .f32) (w : FVec Ideal S8x12x192 .f32) : FVec Ideal S192x96 .f32 :=
  transpose S192x96 [1, 0] (Host.dotGeneral dot_S96x8x12_S8x12x192_S96x192_21_10_0_2_n_n none
    (shapeCast S96x8x12 x shapeCasts_S96x96_S96x8x12) w : FVec Ideal S96x192 .f32) transposes_S96x192_S192x96_1_0

/-- The first node layer's bias once for each node. -/
def nodeBias (b : FVec Ideal S24 .f32) : FVec Ideal S192x1 .f32 :=
  shapeCast S192x1 (shapeCast S192 (broadcastInDim S8x24 ![0, 1] bcast_S1x24_S8x24_0_1
    (shapeCast S1x24 b shapeCasts_S24_S1x24)) shapeCasts_S8x24_S192) shapeCasts_S192_S192x1

/-- The second node layer's weights once for each node: zero between different nodes. -/
def outBlocks (w : FVec Ideal S24x12 .f32) : FVec Ideal S192x96 .f32 :=
  shapeCast S192x96 (mulf
    (broadcastInDim S8x24x8x12 ![0, 1, 2, 3] bcast_S8x1x8x1_S8x24x8x12_0_1_2_3
      (broadcastInDim S8x1x8x1 ![0, 2] bcast_S8x8_S8x1x8x1_0_2 (uitofp .f32 (cmpi .eq
        (addi (iotaInDim S8x8 32 0) (broadcastInDim S8x8 ![] bcast_S_S8x8 (constantI S_ 32 0#32)))
        (iotaInDim S8x8 32 1)))))
    (broadcastInDim S8x24x8x12 ![0, 1, 2, 3] bcast_S1x24x1x12_S8x24x8x12_0_1_2_3
      (broadcastInDim S1x24x1x12 ![1, 3] bcast_S24x12_S1x24x1x12_1_3 w)))
    shapeCasts_S8x24x8x12_S192x96

/-- The second node layer and the first readout layer in one matrix, transposed. -/
def readWeights (w : FVec Ideal S192x96 .f32) (r : FVec Ideal S96x24 .f32) : FVec Ideal S24x192 .f32 :=
  transpose S24x192 [1, 0] (Host.dotGeneral dot_S192x96_S96x24_S192x24_1_0_0_1_n_n none w r : FVec Ideal S192x24 .f32)
    transposes_S192x24_S24x192_1_0

/-- What the second node layer's bias becomes under the first readout layer, with that layer's own bias. -/
def readBias (b : FVec Ideal S12 .f32) (r : FVec Ideal S96x24 .f32) (o : FVec Ideal S24 .f32) : FVec Ideal S24x1 .f32 :=
  shapeCast S24x1 (addf (Host.dotGeneral dot_S96_S96x24_S24_0_0_n_1_n_n none
    (shapeCast S96 (broadcastInDim S8x12 ![0, 1] bcast_S1x12_S8x12_0_1 (shapeCast S1x12 b shapeCasts_S12_S1x12))
      shapeCasts_S8x12_S96) r : FVec Ideal S24 .f32) o) shapeCasts_S24_S24x1

section
variable (m : (l : Loc nD τ sig) → Buf (Elt Ideal) l) (c : Dev nD)

set_option maxHeartbeats 4000000 in
/-- What `main_v2` holds when the kernel starts. -/
theorem entry_v2 : (show FVec Ideal S4x524288 .f32 from V m c main_v2) =
    transpose S4x524288 [1, 0] (shapeCast S524288x4 (extractStridedSlice S524288x1x4 ![0, 14, 0] (m ((c : Thread nD τ).loc main_arg0)) slices_S524288x15x4_S524288x1x4_0_14_0) shapeCasts_S524288x1x4_S524288x4) transposes_S524288x4_S4x524288_1_0 := by
  simp only [V, V0, hostOps0, hostOps0_1, hostOps0_2, hostOps0_3, hostOps0_4, hostOps0_5, hostOps0_6, List.flatten_cons,
    List.flatten_nil, List.append_nil, List.cons_append, List.nil_append]
  entry_read
  rfl

set_option maxHeartbeats 4000000 in
/-- What `main_cst_1` holds when the kernel starts. -/
theorem entry_cst_1 : (show FVec Ideal S96x8 .f32 from V m c main_cst_1) =
    (fun i => FloatOps.ofBits .f32 (lit2 (S96x8.rowMajor i))) := by
  simp only [V, V0, hostOps0, hostOps0_1, hostOps0_2, hostOps0_3, hostOps0_4, hostOps0_5, hostOps0_6, List.flatten_cons,
    List.flatten_nil, List.append_nil, List.cons_append, List.nil_append]
  entry_read
  rfl

set_option maxHeartbeats 4000000 in
/-- What `main_cst_2` holds when the kernel starts. -/
theorem entry_cst_2 : (show FVec Ideal S96x3 .f32 from V m c main_cst_2) =
    (fun i => FloatOps.ofBits .f32 (lit3 (S96x3.rowMajor i))) := by
  simp only [V, V0, hostOps0, hostOps0_1, hostOps0_2, hostOps0_3, hostOps0_4, hostOps0_5, hostOps0_6, List.flatten_cons,
    List.flatten_nil, List.append_nil, List.cons_append, List.nil_append]
  entry_read
  rfl

set_option maxHeartbeats 4000000 in
/-- What `main_cst_3` holds when the kernel starts. -/
theorem entry_cst_3 : (show FVec Ideal S96x8 .f32 from V m c main_cst_3) =
    (fun i => FloatOps.ofBits .f32 (lit4 (S96x8.rowMajor i))) := by
  simp only [V, V0, hostOps0, hostOps0_1, hostOps0_2, hostOps0_3, hostOps0_4, hostOps0_5, hostOps0_6, List.flatten_cons,
    List.flatten_nil, List.append_nil, List.cons_append, List.nil_append]
  entry_read
  rfl

set_option maxHeartbeats 4000000 in
/-- What `main_v79` holds when the kernel starts. -/
theorem entry_v79 : (show FVec Ideal S192x96 .f32 from V m c main_v79) =
    effective (mix (ang (m ((c : Thread nD τ).loc main_arg11))) (rad (m ((c : Thread nD τ).loc main_arg12)))) (nodeBlocks (m ((c : Thread nD τ).loc main_arg7))) := by
  simp only [V, V0, hostOps0, hostOps0_1, hostOps0_2, hostOps0_3, hostOps0_4, hostOps0_5, hostOps0_6, List.flatten_cons,
    List.flatten_nil, List.append_nil, List.cons_append, List.nil_append]
  entry_read
  rfl

set_option maxHeartbeats 4000000 in
/-- What `main_v83` holds when the kernel starts. -/
theorem entry_v83 : (show FVec Ideal S192x1 .f32 from V m c main_v83) =
    nodeBias (m ((c : Thread nD τ).loc main_arg8)) := by
  simp only [V, V0, hostOps0, hostOps0_1, hostOps0_2, hostOps0_3, hostOps0_4, hostOps0_5, hostOps0_6, List.flatten_cons,
    List.flatten_nil, List.append_nil, List.cons_append, List.nil_append]
  entry_read
  rfl

set_option maxHeartbeats 4000000 in
/-- What `main_v92` holds when the kernel starts. -/
theorem entry_v92 : (show FVec Ideal S24x192 .f32 from V m c main_v92) =
    readWeights (outBlocks (m ((c : Thread nD τ).loc main_arg9))) (m ((c : Thread nD τ).loc main_arg13)) := by
  simp only [V, V0, hostOps0, hostOps0_1, hostOps0_2, hostOps0_3, hostOps0_4, hostOps0_5, hostOps0_6, List.flatten_cons,
    List.flatten_nil, List.append_nil, List.cons_append, List.nil_append]
  entry_read
  rfl

set_option maxHeartbeats 4000000 in
/-- What `main_v98` holds when the kernel starts. -/
theorem entry_v98 : (show FVec Ideal S24x1 .f32 from V m c main_v98) =
    readBias (m ((c : Thread nD τ).loc main_arg10)) (m ((c : Thread nD τ).loc main_arg13)) (m ((c : Thread nD τ).loc main_arg14)) := by
  simp only [V, V0, hostOps0, hostOps0_1, hostOps0_2, hostOps0_3, hostOps0_4, hostOps0_5, hostOps0_6, List.flatten_cons,
    List.flatten_nil, List.append_nil, List.cons_append, List.nil_append]
  entry_read
  rfl

set_option maxHeartbeats 4000000 in
/-- What `main_v99` holds when the kernel starts. -/
theorem entry_v99 : (show FVec Ideal S4x24 .f32 from V m c main_v99) =
    transpose S4x24 [1, 0] (m ((c : Thread nD τ).loc main_arg15)) transposes_S24x4_S4x24_1_0 := by
  simp only [V, V0, hostOps0, hostOps0_1, hostOps0_2, hostOps0_3, hostOps0_4, hostOps0_5, hostOps0_6, List.flatten_cons,
    List.flatten_nil, List.append_nil, List.cons_append, List.nil_append]
  entry_read
  rfl

set_option maxHeartbeats 4000000 in
/-- What `main_v100` holds when the kernel starts. -/
theorem entry_v100 : (show FVec Ideal S4x1 .f32 from V m c main_v100) =
    shapeCast S4x1 (m ((c : Thread nD τ).loc main_arg16)) shapeCasts_S4_S4x1 := by
  simp only [V, V0, hostOps0, hostOps0_1, hostOps0_2, hostOps0_3, hostOps0_4, hostOps0_5, hostOps0_6, List.flatten_cons,
    List.flatten_nil, List.append_nil, List.cons_append, List.nil_append]
  entry_read
  rfl

set_option maxHeartbeats 4000000 in
/-- What `main_v101` holds when the kernel starts. -/
theorem entry_v101 : (show FVec Ideal S24x4 .f32 from V m c main_v101) =
    transpose S24x4 [1, 0] (m ((c : Thread nD τ).loc main_arg1)) transposes_S4x24_S24x4_1_0 := by
  simp only [V, V0, hostOps0, hostOps0_1, hostOps0_2, hostOps0_3, hostOps0_4, hostOps0_5, hostOps0_6, List.flatten_cons,
    List.flatten_nil, List.append_nil, List.cons_append, List.nil_append]
  entry_read
  rfl

set_option maxHeartbeats 4000000 in
/-- What `main_v102` holds when the kernel starts. -/
theorem entry_v102 : (show FVec Ideal S24x1 .f32 from V m c main_v102) =
    shapeCast S24x1 (m ((c : Thread nD τ).loc main_arg2)) shapeCasts_S24_S24x1 := by
  simp only [V, V0, hostOps0, hostOps0_1, hostOps0_2, hostOps0_3, hostOps0_4, hostOps0_5, hostOps0_6, List.flatten_cons,
    List.flatten_nil, List.append_nil, List.cons_append, List.nil_append]
  entry_read
  rfl

set_option maxHeartbeats 4000000 in
/-- What `main_v103` holds when the kernel starts. -/
theorem entry_v103 : (show FVec Ideal S24x24 .f32 from V m c main_v103) =
    transpose S24x24 [1, 0] (m ((c : Thread nD τ).loc main_arg3)) transposes_S24x24_S24x24_1_0 := by
  simp only [V, V0, hostOps0, hostOps0_1, hostOps0_2, hostOps0_3, hostOps0_4, hostOps0_5, hostOps0_6, List.flatten_cons,
    List.flatten_nil, List.append_nil, List.cons_append, List.nil_append]
  entry_read
  rfl

set_option maxHeartbeats 4000000 in
/-- What `main_v104` holds when the kernel starts. -/
theorem entry_v104 : (show FVec Ideal S24x1 .f32 from V m c main_v104) =
    shapeCast S24x1 (m ((c : Thread nD τ).loc main_arg4)) shapeCasts_S24_S24x1 := by
  simp only [V, V0, hostOps0, hostOps0_1, hostOps0_2, hostOps0_3, hostOps0_4, hostOps0_5, hostOps0_6, List.flatten_cons,
    List.flatten_nil, List.append_nil, List.cons_append, List.nil_append]
  entry_read
  rfl

set_option maxHeartbeats 4000000 in
/-- What `main_v105` holds when the kernel starts. -/
theorem entry_v105 : (show FVec Ideal S3x24 .f32 from V m c main_v105) =
    transpose S3x24 [1, 0] (m ((c : Thread nD τ).loc main_arg5)) transposes_S24x3_S3x24_1_0 := by
  simp only [V, V0, hostOps0, hostOps0_1, hostOps0_2, hostOps0_3, hostOps0_4, hostOps0_5, hostOps0_6, List.flatten_cons,
    List.flatten_nil, List.append_nil, List.cons_append, List.nil_append]
  entry_read
  rfl

set_option maxHeartbeats 4000000 in
/-- What `main_v106` holds when the kernel starts. -/
theorem entry_v106 : (show FVec Ideal S3x1 .f32 from V m c main_v106) =
    shapeCast S3x1 (m ((c : Thread nD τ).loc main_arg6)) shapeCasts_S3_S3x1 := by
  simp only [V, V0, hostOps0, hostOps0_1, hostOps0_2, hostOps0_3, hostOps0_4, hostOps0_5, hostOps0_6, List.flatten_cons,
    List.flatten_nil, List.append_nil, List.cons_append, List.nil_append]
  entry_read
  rfl

end

end Cert.Proof.Prep

end
-- ==== Proof.Entries.lean ====
/- The entries of the operands the kernel's host line prepares, and the kernel's output with these operands: the plain
   form of the network. -/
module

public import proofs.«01_k».proof.Proof.Prep
public import proofs.«01_k».proof.Proof.Kern
public import proofs.«01_k».proof.Proof.Net
public import proofs.«01_k».proof.Proof.Weights

@[expose] public section

set_option maxRecDepth 16384

noncomputable section

open Idealize.ShloMosaic Idealize.ShloMosaic.TcCoe Idealize.SL.Sem
open Cert.KernelIdeal Cert.KernelIdeal.Gen

namespace Cert.Proof.Prep

open Cert.Proof.Algebra Cert.Proof.Cells Cert.Proof.Kern

/-- Two indices compared: one where they agree, zero elsewhere. -/
theorem eye (a b : ℕ) (ha : a < 192) (hb : b < 192) :
    FloatOps.uitofp (F := Ideal) .f32 (IntOp.cmpi .eq (IntOp.addi (BitVec.ofNat 32 a) 0#32) (BitVec.ofNat 32 b)) =
      if a = b then 1 else 0 := by
  have h0 : IntOp.addi (BitVec.ofNat 32 a) 0#32 = BitVec.ofNat 32 a := BitVec.add_zero _
  have h : (BitVec.ofNat 32 a = BitVec.ofNat 32 b) ↔ a = b := by
    refine ⟨fun h => ?_, fun h => by rw [h]⟩
    have := congrArg BitVec.toNat h
    simp only [BitVec.toNat_ofNat] at this
    omega
  rw [h0]
  by_cases e : a = b
  · have hc : IntOp.cmpi .eq (BitVec.ofNat 32 a) (BitVec.ofNat 32 b) = 1#1 := by
      rw [e]
      simp [IntOp.cmpi]
    rw [if_pos e, hc]
    show (((1#1 : BitVec 1).toNat : ℝ) : EReal) = 1
    norm_num
  · have hn : ¬ BitVec.ofNat 32 a = BitVec.ofNat 32 b := fun h' => e (h.mp h')
    have hc : IntOp.cmpi .eq (BitVec.ofNat 32 a) (BitVec.ofNat 32 b) = 0#1 := by
      show BitVec.ofBool (BitVec.ofNat 32 a == BitVec.ofNat 32 b) = 0#1
      rw [beq_false_of_ne hn]
      rfl
    rw [if_neg e, hc]
    show (((0#1 : BitVec 1).toNat : ℝ) : EReal) = 0
    norm_num

/-- The table of angular neighbours. -/
theorem ang_table (i j : Fin 4) : lit0 (S4x4.rowMajor (ix2 i j)) = if (i.val + j.val) % 2 = 1 then 0x3F800000#32 else 0#32 := by
  revert i j; decide +kernel

/-- The table of radial neighbours. -/
theorem rad_table (i j : Fin 2) : lit1 (S2x2.rowMajor (ix2 i j)) = if (i.val + j.val) % 2 = 1 then 0x3F800000#32 else 0#32 := by
  revert i j; decide +kernel

/-- One angular weight. -/
theorem ang_entry (x : FVec Ideal S4 .f32) (i j : Fin 4) : ang x (ix2 i j) = Weights.weight (fun k => x (ix1 k)) i j := by
  have h1 : ∀ j : Fin 4, angExp x (ix1 j) = Weights.expo (fun k => x (ix1 k)) j := fun j => by
    pointwise [angExp]
    rfl
  have h2 : ∀ i j : Fin 4, angRaw x (ix2 i j) = Weights.raw (fun k => x (ix1 k)) i j := fun i j => by
    pointwise [angRaw]
    rw [ang_table]
    simp only [h1]
    rfl
  pointwise [ang]
  simp only [h2]
  rfl

/-- One radial weight. -/
theorem rad_entry (x : FVec Ideal S2 .f32) (i j : Fin 2) : rad x (ix2 i j) = Weights.weight (fun k => x (ix1 k)) i j := by
  have h1 : ∀ j : Fin 2, radExp x (ix1 j) = Weights.expo (fun k => x (ix1 k)) j := fun j => by
    pointwise [radExp]
    rfl
  have h2 : ∀ i j : Fin 2, radRaw x (ix2 i j) = Weights.raw (fun k => x (ix1 k)) i j := fun i j => by
    pointwise [radRaw]
    rw [rad_table]
    simp only [h1]
    rfl
  pointwise [rad]
  simp only [h2]
  rfl

/-- One entry of the mixing matrix. -/
theorem mix_entry (a : FVec Ideal S4x4 .f32) (r : FVec Ideal S2x2 .f32) (x y : Fin 96) :
    mix a r (ix2 x y) = Net.entry (fun i j => a (ix2 i j)) (fun i j => r (ix2 i j)) x y := by
  pointwise [mix, angKron, radKron]
  have h1 := eye x.val y.val (by omega) (by omega)
  have h2 := eye (x.val % 24) (y.val % 24) (by omega) (by omega)
  have h3 := eye (x.val % 48) (y.val % 48) (by omega) (by omega)
  simp only [h1, h2, h3]
  rfl

/-- One entry of the first node layer's block matrix. -/
theorem nodeBlocks_entry (w : FVec Ideal S12x24 .f32) (n : Fin 8) (d : Fin 12) (q : Fin 192) :
    nodeBlocks w (ix3 n d q) = (if n.val = q.val / 24 then 1 else 0) * w (ix2 d ⟨q.val % 24, by omega⟩) := by
  pointwise [nodeBlocks]
  rw [eye _ _ (by omega) (by omega)]

/-- One entry of the matrix that holds the mixing and the first node layer. -/
theorem effective_entry (a : FVec Ideal S4x4 .f32) (r : FVec Ideal S2x2 .f32) (w : FVec Ideal S12x24 .f32) (q : Fin 192)
    (y : Fin 96) : effective (mix a r) (nodeBlocks w) (ix2 q y) =
      Net.share (fun i j => a (ix2 i j)) (fun i j => r (ix2 i j)) ⟨y.val / 12, by omega⟩ ⟨q.val / 24, by omega⟩ *
        w (ix2 ⟨y.val % 12, by omega⟩ ⟨q.val % 24, by omega⟩) := by
  have e : ∀ (x : FVec Ideal S96x96 .f32) (w : FVec Ideal S8x12x192 .f32), effective x w (ix2 q y) =
      ∑ d : Fin 12, ∑ k : Fin 8, x (ix2 y ⟨k.val * 12 + d.val, by omega⟩) * w (ix3 k d q) := fun x w => by
    pointwise [effective]
  rw [e]
  simp only [mix_entry, nodeBlocks_entry]
  exact Net.effective_entry (fun i j => a (ix2 i j)) (fun i j => r (ix2 i j)) y ⟨q.val / 24, by omega⟩
    fun d => w (ix2 d ⟨q.val % 24, by omega⟩)

/-- One entry of the first node layer's bias. -/
theorem nodeBias_entry (b : FVec Ideal S24 .f32) (q : Fin 192) : nodeBias b (ix2 q 0) = b (ix1 ⟨q.val % 24, by omega⟩) := by
  pointwise [nodeBias]

/-- One entry of the matrix that holds the second node layer and the first readout layer. -/
theorem readWeights_entry (w : FVec Ideal S24x12 .f32) (r : FVec Ideal S96x24 .f32) (k : Fin 24) (q : Fin 192) :
    readWeights (outBlocks w) r (ix2 k q) = ∑ y : Fin 96, (if q.val / 24 = y.val / 12 then 1 else 0) *
      w (ix2 ⟨q.val % 24, by omega⟩ ⟨y.val % 12, by omega⟩) * r (ix2 y k) := by
  have e : ∀ y : Fin 96, outBlocks w (ix2 q y) = (if q.val / 24 = y.val / 12 then 1 else 0) *
      w (ix2 ⟨q.val % 24, by omega⟩ ⟨y.val % 12, by omega⟩) := fun y => by
    pointwise [outBlocks]
    rw [eye _ _ (by omega) (by omega)]
  have e' : ∀ w : FVec Ideal S192x96 .f32, readWeights w r (ix2 k q) = ∑ y : Fin 96, w (ix2 q y) * r (ix2 y k) := fun w => by
    pointwise [readWeights]
  rw [e']
  simp only [e]

/-- One entry of the first readout layer's bias. -/
theorem readBias_entry (b : FVec Ideal S12 .f32) (r : FVec Ideal S96x24 .f32) (o : FVec Ideal S24 .f32) (k : Fin 24) :
    readBias b r o (ix2 k 0) = (∑ y : Fin 96, b (ix1 ⟨y.val % 12, by omega⟩) * r (ix2 y k)) + o (ix1 k) := by
  pointwise [readBias]

/-- Which node's corner count a row of the 96 takes. -/
theorem count_table (x : Fin 96) (n : Fin 8) :
    lit2 (S96x8.rowMajor (ix2 x n)) = if n.val = x.val / 12 ∧ x.val % 12 < 3 then 0x3F800000#32 else 0#32 := by
  revert x n; decide +kernel

/-- Which encoder output a row of the 96 takes. -/
theorem code_table (x : Fin 96) (i : Fin 3) :
    lit3 (S96x3.rowMajor (ix2 x i)) = if i.val = x.val % 12 then 0x3F800000#32 else 0#32 := by
  revert x i; decide +kernel

/-- Which node's corner weight a row of the 96 takes. -/
theorem mass_table (x : Fin 96) (n : Fin 8) :
    lit4 (S96x8.rowMajor (ix2 x n)) = if n.val = x.val / 12 ∧ x.val % 12 = 3 then 0x3F800000#32 else 0#32 := by
  revert x n; decide +kernel

/-- A word chosen between one and zero. -/
theorem word (p : Prop) [Decidable p] : (FloatOps.ofBits (F := Ideal) .f32 (if p then 0x3F800000#32 else 0#32) : EReal) = if p then 1 else 0 := by
  split
  · exact Weights.word_one
  · exact Weights.word_zero

/-- The kernel's 96 rows hold the nodes' features, twelve to a node. -/
theorem rows (r p : EReal) (z : Fin 3 → EReal) (x : Fin 96) :
    (∑ n : Fin 8, (FloatOps.ofBits (F := Ideal) .f32 (lit2 (S96x8.rowMajor (ix2 x n))) : EReal) * tally r p n) *
        (∑ i : Fin 3, (FloatOps.ofBits (F := Ideal) .f32 (lit3 (S96x3.rowMajor (ix2 x i))) : EReal) * z i) +
        (∑ n : Fin 8, (FloatOps.ofBits (F := Ideal) .f32 (lit4 (S96x8.rowMajor (ix2 x n))) : EReal) * mass r p n) =
      feature r p z ⟨x.val / 12, by omega⟩ ⟨x.val % 12, by omega⟩ := by
  have e2 : ∀ n : Fin 8, (FloatOps.ofBits (F := Ideal) .f32 (lit2 (S96x8.rowMajor (ix2 x n))) : EReal) =
      if n.val = x.val / 12 ∧ x.val % 12 < 3 then 1 else 0 := fun n => by
    rw [count_table x n]
    exact word _
  have e3 : ∀ i : Fin 3, (FloatOps.ofBits (F := Ideal) .f32 (lit3 (S96x3.rowMajor (ix2 x i))) : EReal) =
      if i.val = x.val % 12 then 1 else 0 := fun i => by
    rw [code_table x i]
    exact word _
  have e4 : ∀ n : Fin 8, (FloatOps.ofBits (F := Ideal) .f32 (lit4 (S96x8.rowMajor (ix2 x n))) : EReal) =
      if n.val = x.val / 12 ∧ x.val % 12 = 3 then 1 else 0 := fun n => by
    rw [mass_table x n]
    exact word _
  rw [Finset.sum_congr rfl fun n _ => congrArg (· * tally r p n) (e2 n),
    Finset.sum_congr rfl fun n _ => congrArg (· * z n) (e3 n),
    Finset.sum_congr rfl fun n _ => congrArg (· * mass r p n) (e4 n)]
  have pick : ∀ (q : Prop) [Decidable q] (h : Fin 8 → EReal),
      (∑ n : Fin 8, (if n.val = x.val / 12 ∧ q then (1 : EReal) else 0) * h n) = if q then h ⟨x.val / 12, by omega⟩ else 0 := by
    intro q _ h
    rw [Finset.sum_eq_single (⟨x.val / 12, by omega⟩ : Fin 8)]
    · by_cases hq : q <;> simp [hq]
    · intro n _ hn
      rw [if_neg fun h' => hn (Fin.ext h'.1), zero_mul]
    · exact fun h' => absurd (Finset.mem_univ _) h'
  rw [pick, pick]
  unfold feature
  by_cases h : x.val % 12 < 3
  · have hm : ¬ x.val % 12 = 3 := by omega
    simp only [if_pos h, if_neg hm, dif_pos h, add_zero]
    rw [Finset.sum_eq_single (⟨x.val % 12, h⟩ : Fin 3)]
    · simp
    · intro n _ hn
      rw [if_neg fun h' => hn (Fin.ext h'), zero_mul]
    · exact fun h' => absurd (Finset.mem_univ _) h'
  · simp only [if_neg h, dif_neg h, zero_mul, zero_add]

/-- The kernel's output, from the encoder's outputs, is the network in its plain form. -/
theorem out_eq (a : FVec Ideal S4x4 .f32) (r : FVec Ideal S2x2 .f32) (w7 : FVec Ideal S12x24 .f32) (b8 : FVec Ideal S24 .f32)
    (w9 : FVec Ideal S24x12 .f32) (b10 : FVec Ideal S12 .f32) (w13 : FVec Ideal S96x24 .f32) (b14 : FVec Ideal S24 .f32)
    (w15 : FVec Ideal S24x4 .f32) (b16 : FVec Ideal S4 .f32) (z : Fin 3 → EReal) (o : Fin 4)
    (ha : ∀ i j, 0 ≤ a (ix2 i j)) (hr : ∀ i j, 0 ≤ r (ix2 i j)) (h9 : ∀ j e, Algebra.Real (w9 (ix2 j e)))
    (h13 : ∀ y k, Algebra.Real (w13 (ix2 y k))) :
    out (fun i => FloatOps.ofBits .f32 (lit2 (S96x8.rowMajor i))) (fun i => FloatOps.ofBits .f32 (lit3 (S96x3.rowMajor i)))
        (fun i => FloatOps.ofBits .f32 (lit4 (S96x8.rowMajor i))) (effective (mix a r) (nodeBlocks w7)) (nodeBias b8)
        (readWeights (outBlocks w9) w13) (readBias b10 w13 b14) (transpose S4x24 [1, 0] w15 transposes_S24x4_S4x24_1_0)
        (shapeCast S4x1 b16 shapeCasts_S4_S4x1) z o =
      Net.answer (Net.hidden (fun i j => a (ix2 i j)) (fun i j => r (ix2 i j))
          (feature (Ideal.logistic (z 0)) (spot (z 1)) z) (fun d j => w7 (ix2 d j)) fun j => b8 (ix1 j))
        (fun j e => w9 (ix2 j e)) (fun e => b10 (ix1 e)) (fun y k => w13 (ix2 y k)) (fun k => b14 (ix1 k))
        (fun k o => w15 (ix2 k o)) (fun o => b16 (ix1 o)) o := by
  have t15 : ∀ k : Fin 24, transpose S4x24 [1, 0] w15 transposes_S24x4_S4x24_1_0 (ix2 o k) = w15 (ix2 k o) := fun k => by
    pointwise
  have t16 : shapeCast S4x1 b16 shapeCasts_S4_S4x1 (ix2 o 0) = b16 (ix1 o) := by
    pointwise
  unfold out Net.answer
  simp only [rows, effective_entry, nodeBias_entry, readWeights_entry, readBias_entry, t15, t16]
  refine congrArg (· + _) (Finset.sum_congr rfl fun k _ => ?_)
  rw [mul_comm]
  refine congrArg (Ideal.tanh · * _) ?_
  have hid : ∀ q : Fin 192, Ideal.tanh ((∑ x : Fin 96,
      Net.share (fun i j => a (ix2 i j)) (fun i j => r (ix2 i j)) ⟨x.val / 12, by omega⟩ ⟨q.val / 24, by omega⟩ *
        w7 (ix2 ⟨x.val % 12, by omega⟩ ⟨q.val % 24, by omega⟩) *
        feature (Ideal.logistic (z 0)) (spot (z 1)) z ⟨x.val / 12, by omega⟩ ⟨x.val % 12, by omega⟩) +
          b8 (ix1 ⟨q.val % 24, by omega⟩)) =
      Net.hidden (fun i j => a (ix2 i j)) (fun i j => r (ix2 i j)) (feature (Ideal.logistic (z 0)) (spot (z 1)) z)
        (fun d j => w7 (ix2 d j)) (fun j => b8 (ix1 j)) ⟨q.val / 24, by omega⟩ ⟨q.val % 24, by omega⟩ := fun q => by
    unfold Net.hidden
    refine congrArg (fun s => Ideal.tanh (s + _)) ?_
    exact Net.mixed ha hr _ (feature_oneSign _ _ _) (fun d => w7 (ix2 d ⟨q.val % 24, by omega⟩)) ⟨q.val / 24, by omega⟩
  simp only [hid]
  rw [← add_assoc]
  refine congrArg (· + _) ?_
  exact (Net.layers (Net.hidden (fun i j => a (ix2 i j)) (fun i j => r (ix2 i j))
    (feature (Ideal.logistic (z 0)) (spot (z 1)) z) (fun d j => w7 (ix2 d j)) fun j => b8 (ix1 j))
    (fun j e => w9 (ix2 j e)) (fun e => b10 (ix1 e)) (fun y => w13 (ix2 y k)) (fun n j => real_tanh _) h9
    (fun y => h13 y k)).symm

end Cert.Proof.Prep

end
-- ==== Proof.Result.lean ====
/- The kernel's result is the network in its plain form. -/
module

public import proofs.«01_k».proof.Proof.Final
public import proofs.«01_k».proof.Proof.Entries
public import proofs.«01_k».proof.Proof.Network

@[expose] public section

set_option maxRecDepth 16384

noncomputable section

open Idealize.ShloMosaic Idealize.ShloMosaic.TcCoe Idealize.SL.Sem
open Cert.KernelIdeal Cert.KernelIdeal.Gen

namespace Cert.Proof.Kern

open Cert.Proof.Prep

/-- Two over pi times the shifted angle is the angle as a share of the full turn, times four. -/
theorem spot_eq (z : EReal) : spot z = Network.turn z := by
  have h2 : Ideal.ofBits .f32 0x40C90FDB#32 = ((13176795 / 2097152 : ℝ) : EReal) := by
    simp [Ideal.ofBits, Ideal.ieee, -EReal.coe_mul]; norm_num
  have h4 : Ideal.ofBits .f32 0x40800000#32 = ((4 : ℝ) : EReal) := by
    simp [Ideal.ofBits, Ideal.ieee, -EReal.coe_mul]; norm_num
  have hn : (Named.named (F := Ideal) κ "two_over_pi" (φ := .f32) 0x3F22F983#32 : EReal) = ((8388608 / 13176795 : ℝ) : EReal) := by
    simp [Named.named, κ]
  unfold spot Network.turn
  rw [h2, h4, hn, Ideal.div_coe (by norm_num), mul_assoc, ← EReal.coe_mul]
  norm_num

/-- The encoder, from the operands the host line transposes. -/
theorem enc_eq (a0 : FVec Ideal S524288x15x4 .f32) (a1 : FVec Ideal S4x24 .f32) (a2 : FVec Ideal S24 .f32)
    (a3 : FVec Ideal S24x24 .f32) (a4 : FVec Ideal S24 .f32) (a5 : FVec Ideal S24x3 .f32) (a6 : FVec Ideal S3 .f32)
    (b : Fin 524288) : enc (transpose S24x4 [1, 0] a1 transposes_S4x24_S24x4_1_0) (shapeCast S24x1 a2 shapeCasts_S24_S24x1)
      (transpose S24x24 [1, 0] a3 transposes_S24x24_S24x24_1_0) (shapeCast S24x1 a4 shapeCasts_S24_S24x1)
      (transpose S3x24 [1, 0] a5 transposes_S24x3_S3x24_1_0) (shapeCast S3x1 a6 shapeCasts_S3_S3x1)
      (fun f => transpose S4x524288 [1, 0] (shapeCast S524288x4 (extractStridedSlice S524288x1x4 ![0, 14, 0] a0
        slices_S524288x15x4_S524288x1x4_0_14_0) shapeCasts_S524288x1x4_S524288x4) transposes_S524288x4_S4x524288_1_0 (ix2 f b)) =
      Network.code a0 a1 a2 a3 a4 a5 a6 b := by
  have t0 : ∀ f : Fin 4, transpose S4x524288 [1, 0] (shapeCast S524288x4 (extractStridedSlice S524288x1x4 ![0, 14, 0] a0
      slices_S524288x15x4_S524288x1x4_0_14_0) shapeCasts_S524288x1x4_S524288x4) transposes_S524288x4_S4x524288_1_0 (ix2 f b) =
      a0 (ix3 b 14 f) := fun f => by
    pointwise
  have t1 : ∀ (j : Fin 24) (f : Fin 4), transpose S24x4 [1, 0] a1 transposes_S4x24_S24x4_1_0 (ix2 j f) = a1 (ix2 f j) := fun j f => by
    pointwise
  have t2 : ∀ j : Fin 24, shapeCast S24x1 a2 shapeCasts_S24_S24x1 (ix2 j 0) = a2 (ix1 j) := fun j => by
    pointwise
  have t3 : ∀ k j : Fin 24, transpose S24x24 [1, 0] a3 transposes_S24x24_S24x24_1_0 (ix2 k j) = a3 (ix2 j k) := fun k j => by
    pointwise
  have t4 : ∀ j : Fin 24, shapeCast S24x1 a4 shapeCasts_S24_S24x1 (ix2 j 0) = a4 (ix1 j) := fun j => by
    pointwise
  have t5 : ∀ (i : Fin 3) (k : Fin 24), transpose S3x24 [1, 0] a5 transposes_S24x3_S3x24_1_0 (ix2 i k) = a5 (ix2 k i) := fun i k => by
    pointwise
  have t6 : ∀ i : Fin 3, shapeCast S3x1 a6 shapeCasts_S3_S3x1 (ix2 i 0) = a6 (ix1 i) := fun i => by
    pointwise
  funext i
  unfold enc Network.code
  simp only [t0, t1, t2, t3, t4, t5, t6]
  refine congrArg (· + _) (Finset.sum_congr rfl fun k _ => ?_)
  rw [mul_comm]
  refine congrArg (fun s => Ideal.tanh (s + _) * _) (Finset.sum_congr rfl fun j _ => ?_)
  rw [mul_comm]
  refine congrArg (fun s => Ideal.tanh (s + _) * _) (Finset.sum_congr rfl fun f _ => ?_)
  rw [mul_comm]

variable (m : (l : Loc nD τ sig) → Buf (Elt Ideal) l) (c : Dev nD)

/-- The array the kernel leaves, entry by entry. -/
theorem cell_eq (h9 : ∀ i, Algebra.Real ((show FVec Ideal S24x12 .f32 from m ((c : Thread nD τ).loc main_arg9)) i))
    (h13 : ∀ i, Algebra.Real ((show FVec Ideal S96x24 .f32 from m ((c : Thread nD τ).loc main_arg13)) i))
    (h11 : ∀ i, Algebra.Real ((show FVec Ideal S4 .f32 from m ((c : Thread nD τ).loc main_arg11)) i))
    (h12 : ∀ i, Algebra.Real ((show FVec Ideal S2 .f32 from m ((c : Thread nD τ).loc main_arg12)) i))
    (o : Fin 4) (b : Fin 524288) : (show FVec Ideal S4x524288 .f32 from (dats m 0 c).arrAt 16 (cfgs 0).N) (ix2 o b) =
      Network.network (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13))
        (m ((c : Thread nD τ).loc main_arg14)) (m ((c : Thread nD τ).loc main_arg15)) (m ((c : Thread nD τ).loc main_arg16))
        (ix2 b o) := by
  have e2 := entry_v2 m c
  have c1 := entry_cst_1 m c
  have c2 := entry_cst_2 m c
  have c3 := entry_cst_3 m c
  have e79 := entry_v79 m c
  have e83 := entry_v83 m c
  have e92 := entry_v92 m c
  have e98 := entry_v98 m c
  have e99 := entry_v99 m c
  have e100 := entry_v100 m c
  have e101 := entry_v101 m c
  have e102 := entry_v102 m c
  have e103 := entry_v103 m c
  have e104 := entry_v104 m c
  have e105 := entry_v105 m c
  have e106 := entry_v106 m c
  simp only at e2 c1 c2 c3 e79 e83 e92 e98 e99 e100 e101 e102 e103 e104 e105 e106
  refine (congrFun (final m c) (ix2 o b)).trans ?_
  rw [e2, c1, c2, c3, e79, e83, e92, e98, e99, e100, e101, e102, e103, e104, e105, e106]
  have ha : ∀ i j, 0 ≤ ang (m ((c : Thread nD τ).loc main_arg11)) (ix2 i j) := fun i j => by
    rw [ang_entry]
    exact Weights.weight_nonneg _ (fun k => h11 _) i j
  have hr : ∀ i j, 0 ≤ rad (m ((c : Thread nD τ).loc main_arg12)) (ix2 i j) := fun i j => by
    rw [rad_entry]
    exact Weights.weight_nonneg _ (fun k => h12 _) i j
  refine (out_eq _ _ _ _ _ _ _ _ _ _ _ o ha hr (fun j e => h9 _) (fun y k => h13 _)).trans ?_
  simp only [ang_entry, rad_entry]
  have hz := enc_eq (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b
  refine (congrArg (fun z : Fin 3 → EReal => Net.answer (Net.hidden (Weights.weight _) (Weights.weight _)
    (Cells.feature (Ideal.logistic (z 0)) (spot (z 1)) z) _ _) _ _ _ _ _ _ o) hz).trans ?_
  rw [spot_eq]
  rfl

end Cert.Proof.Kern

end
-- ==== Proof.Finite.lean ====
/- The precondition, at an entry: the four weight arrays hold no infinity. -/
module

public import proofs.«01_k».proof.Proof.Gen.Pre_weights_finite
public import proofs.«01_k».proof.Proof.Algebra
public import Idealize.ShloMosaic.Lib.Pointwise
public import Idealize.ShloMosaic.Lib.ReduceAll

@[expose] public section

set_option maxRecDepth 16384

noncomputable section

open Idealize.ShloMosaic Idealize.ShloMosaic.TcCoe Idealize.SL.Sem
open Cert.Pre_weights_finite

namespace Cert.Proof.Finite

open Cert.Proof.Algebra

/-- The word the entries are held against is infinity. -/
theorem word_top : (FloatOps.ofBits (F := Ideal) .f32 0x7F800000#32 : EReal) = ⊤ := by
  show Ideal.ofBits .f32 _ = _
  simp [Ideal.ofBits, Ideal.ieee]

/-- A value whose absolute value lies below infinity is a number. -/
theorem real_of_below (x : EReal)
    (h : FloatOps.cmpf (F := Ideal) (φ := .f32) .olt (FloatOps.absf (F := Ideal) (φ := .f32) x) (FloatOps.ofBits (F := Ideal) .f32 0x7F800000#32) = 1#1) :
    Algebra.Real x := by
  rw [word_top] at h
  have h' : BitVec.ofBool (decide (max x (-x) < (⊤ : EReal))) = 1#1 := h
  have hlt : max x (-x) < (⊤ : EReal) := by
    by_contra hc
    rw [decide_eq_false hc] at h'
    exact absurd h' (by decide)
  obtain ⟨h1, h2⟩ := max_lt_iff.mp hlt
  induction x with
  | bot => simp at h2
  | top => simp at h1
  | coe r => exact ⟨r, rfl⟩

variable (a0 : FVec Ideal S524288x15x4 .f32) (a1 : FVec Ideal S4x24 .f32) (a2 : FVec Ideal S24 .f32)
  (a3 : FVec Ideal S24x24 .f32) (a4 : FVec Ideal S24 .f32) (a5 : FVec Ideal S24x3 .f32) (a6 : FVec Ideal S3 .f32)
  (a7 : FVec Ideal S12x24 .f32) (a8 : FVec Ideal S24 .f32) (a9 : FVec Ideal S24x12 .f32) (a10 : FVec Ideal S12 .f32)
  (a11 : FVec Ideal S4 .f32) (a12 : FVec Ideal S2 .f32) (a13 : FVec Ideal S96x24 .f32) (a14 : FVec Ideal S24 .f32)
  (a15 : FVec Ideal S24x4 .f32) (a16 : FVec Ideal S4 .f32)

/-- There is one index of a scalar. -/
instance : Subsingleton S_.Idx := ⟨fun i j => funext fun k => k.elim0⟩

/-- Under the precondition the second node layer's weights, both logit arrays and the first readout layer's weights are
    numbers. -/
theorem entries (h : fn (F := Ideal) a0 a1 a2 a3 a4 a5 a6 a7 a8 a9 a10 a11 a12 a13 a14 a15 a16 = fun _ => 1#1) :
    ((∀ i, Algebra.Real (a9 i)) ∧ ∀ i, Algebra.Real (a13 i)) ∧ (∀ i, Algebra.Real (a11 i)) ∧ ∀ i, Algebra.Real (a12 i) := by
  have h0 := congrFun h ix0
  unfold fn fn_part1 at h0
  obtain ⟨h1, h12⟩ := IntOp.andi_eq_one.1 h0
  obtain ⟨h2, h11⟩ := IntOp.andi_eq_one.1 h1
  obtain ⟨h9, h13⟩ := IntOp.andi_eq_one.1 h2
  exact ⟨⟨fun i => real_of_below _ (Host.reduce_andi_all _ _ _ _ _ h9 i),
    fun i => real_of_below _ (Host.reduce_andi_all _ _ _ _ _ h13 i)⟩,
    fun i => real_of_below _ (Host.reduce_andi_all _ _ _ _ _ h11 i),
    fun i => real_of_below _ (Host.reduce_andi_all _ _ _ _ _ h12 i)⟩

end Cert.Proof.Finite

end
-- ==== Proof.lean ====
/- The claims: the two programs and the kernel over the extended reals run and keep their arguments; reading the
   word of 4 / (2π) as the named constant is allowed; the kernel and the reference end with the same result under the precondition. -/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.Pre_weights_finite
public import Idealize.ShloMosaic.Lib.Claim
public import proofs.«01_k».proof.Proof.Refs
public import proofs.«01_k».proof.Proof.Result
public import proofs.«01_k».proof.Proof.Finite

@[expose] public section

set_option maxRecDepth 16384

noncomputable section

namespace Cert.Proof

open Idealize.ShloMosaic Idealize.SL.Sem

/-! ## The kernel's host line after the kernel -/

section
open Idealize.ShloMosaic.TcCoe Cert.KernelIdeal Cert.KernelIdeal.Gen

/-- A transpose read at an entry. -/
theorem transpose_entry (x : FVec Ideal S4x524288 .f32) (b : Fin 524288) (o : Fin 4) :
    transpose S524288x4 [1, 0] x transposes_S4x524288_S524288x4_1_0 (ix2 b o) = x (ix2 o b) := by
  pointwise

set_option maxHeartbeats 1600000 in
/-- The kernel's result array is the array the kernel leaves, transposed. -/
theorem tail_eq (m : (l : Loc nD τ sig) → Buf (Elt Ideal) l) (c : Dev nD) :
    Pipeline.afterTail₀ cfgs (dats m) 0 (V0 m) [hostOps1] c main_v108 =
      transpose S524288x4 [1, 0] (show FVec Ideal S4x524288 .f32 from (dats m 0 c).arrAt 16 (cfgs 0).N)
        transposes_S4x524288_S524288x4_1_0 := by
  unfold Pipeline.afterTail₀
  simp only [hostOps1, List.flatten_cons, List.flatten_nil, List.append_nil, List.cons_append, List.nil_append]
  after_results
  exact congrArg (fun x : FVec Ideal S4x524288 .f32 => transpose S524288x4 [1, 0] x transposes_S4x524288_S524288x4_1_0)
    (Pipeline.withArrays_arr _ launch0.win.arr_inj c _ _ 16)

end

/-! ## The claims -/

/-- The kernel runs and leaves its arguments as they were. -/
theorem kernel_frame : Cert.quiescent_Kernel := fun m g _ => Cert.Kernel.Gen.frame m g

/-- The kernel over the extended reals runs and leaves its arguments as they were. -/
theorem ideal_frame : Cert.quiescent_KernelIdeal := fun m g _ => Cert.KernelIdeal.Gen.frame m g

/-- The reference over the extended reals runs and leaves its arguments as they were. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The kernel over the extended reals is the kernel, with the word of 4 / (2π) read as the named constant. -/
theorem named : Cert.preserves_Kernel_KernelIdeal :=
  IdealRules.named_const.statement Cert.KernelIdeal.κ "two_over_pi" .f32 _ _ rfl

/-- The reference's run, with its result as the network in its plain form. -/
theorem reference_run (m : (l : Loc Cert.ReferenceIdeal.nD Cert.ReferenceIdeal.τ Cert.ReferenceIdeal.sig) → Buf (Elt Ideal) l) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v152) = Network.network
        (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5))
        (m ((c.tc : Thread Cert.ReferenceIdeal.nD Cert.ReferenceIdeal.τ).loc Cert.ReferenceIdeal.main_arg6))
        (m ((c.tc : Thread Cert.ReferenceIdeal.nD Cert.ReferenceIdeal.τ).loc Cert.ReferenceIdeal.main_arg7))
        (m ((c.tc : Thread Cert.ReferenceIdeal.nD Cert.ReferenceIdeal.τ).loc Cert.ReferenceIdeal.main_arg8))
        (m ((c.tc : Thread Cert.ReferenceIdeal.nD Cert.ReferenceIdeal.τ).loc Cert.ReferenceIdeal.main_arg9))
        (m ((c.tc : Thread Cert.ReferenceIdeal.nD Cert.ReferenceIdeal.τ).loc Cert.ReferenceIdeal.main_arg10))
        (m ((c.tc : Thread Cert.ReferenceIdeal.nD Cert.ReferenceIdeal.τ).loc Cert.ReferenceIdeal.main_arg11))
        (m ((c.tc : Thread Cert.ReferenceIdeal.nD Cert.ReferenceIdeal.τ).loc Cert.ReferenceIdeal.main_arg12))
        (m ((c.tc : Thread Cert.ReferenceIdeal.nD Cert.ReferenceIdeal.τ).loc Cert.ReferenceIdeal.main_arg13))
        (m ((c.tc : Thread Cert.ReferenceIdeal.nD Cert.ReferenceIdeal.τ).loc Cert.ReferenceIdeal.main_arg14))
        (m ((c.tc : Thread Cert.ReferenceIdeal.nD Cert.ReferenceIdeal.τ).loc Cert.ReferenceIdeal.main_arg15))
        (m ((c.tc : Thread Cert.ReferenceIdeal.nD Cert.ReferenceIdeal.τ).loc Cert.ReferenceIdeal.main_arg16)) ∧
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) ∧
      r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) ∧
      r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) ∧
      r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) ∧
      r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) ∧
      r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5) ∧
      r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6) ∧
      r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7) ∧
      r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8) ∧
      r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9) ∧
      r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10) ∧
      r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11) ∧
      r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12) ∧
      r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13) ∧
      r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14) ∧
      r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15) ∧
      r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)) :=
  (θ_run Cert.ReferenceIdeal.defs _ _).mono
    (fun r h c => ⟨(h c).1.trans ((Cert.ReferenceIdeal.Value.val4_main_v152 (F := Ideal) (StableHlo.launchContents m c)).symm.trans
      (Refr.result (StableHlo.launchContents m c))), (h c).2⟩)
    (Cert.ReferenceIdeal.Value.run (F := Ideal) m g)

/-- The kernel's result array under the precondition: the network in its plain form. -/
theorem kernel_result (m : (l : Loc Cert.KernelIdeal.nD Cert.KernelIdeal.τ Cert.KernelIdeal.sig) → Buf (Elt Ideal) l) (hpre : Cert.Pre_KernelIdeal_weights_finite m)
    (c : Dev Cert.KernelIdeal.nD) : Pipeline.afterTail₀ Cert.KernelIdeal.cfgs (Cert.KernelIdeal.Gen.dats m) 0 (Cert.KernelIdeal.Gen.V0 m) [Cert.KernelIdeal.Gen.hostOps1] c Cert.KernelIdeal.main_v108 =
      Network.network
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16)) := by
  obtain ⟨⟨h9, h13⟩, h11, h12⟩ := Finite.entries _ _ _ _ _ _ _ _ _ _ _ _ _ _ _ _ _ (hpre c)
  refine (tail_eq m c).trans (funext fun y => ?_)
  idx_vars y
  exact (transpose_entry _ y0 y1).trans (Kern.cell_eq m c h9 h13 h11 h12 y1 y0)

/-- The kernel's run, with its result as the network in its plain form. -/
theorem kernel_run (m : (l : Loc Cert.KernelIdeal.nD Cert.KernelIdeal.τ Cert.KernelIdeal.sig) → Buf (Elt Ideal) l) (g : Dev Cert.KernelIdeal.nD → PrngReg)
    (hpre : Cert.Pre_KernelIdeal_weights_finite m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v108) = Network.network
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16)) ∧
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧
      r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧
      r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧
      r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧
      r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧
      r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧
      r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) ∧
      r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) ∧
      r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) ∧
      r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9) ∧
      r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10) ∧
      r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11) ∧
      r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12) ∧
      r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13) ∧
      r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14) ∧
      r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15) ∧
      r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)) := by
  have h := θ_run_and (Cert.KernelIdeal.Gen.run_main m g) (Cert.KernelIdeal.Gen.unchanged m g)
  exact (θ_run Cert.KernelIdeal.defs _ _).mono
    (fun r h c => ⟨((h.1 c).2 Cert.KernelIdeal.main_v108 (Pipeline.mem_restRefs_of Cert.KernelIdeal.main_v108 (by decide) (by decide))).trans
      (kernel_result m hpre c), h.2 c⟩) h

set_option maxHeartbeats 1600000 in
/-- The kernel's result is the reference's. -/
theorem value : Cert.algebraic_KernelIdeal_ReferenceIdeal_pre_weights_finite := by
  intro m g m' g' hpre hagree
  refine ⟨_, kernel_run m g hpre, (θ_run Cert.ReferenceIdeal.defs _ _).mono (fun r h c => ⟨(h c).1.trans ?_, (h c).2⟩)
    (reference_run m' g')⟩
  obtain ⟨e0, e1, e2, e3, e4, e5, e6, e7, e8, e9, e10, e11, e12, e13, e14, e15, e16⟩ := hagree c
  rw [e0, e1, e2, e3, e4, e5, e6, e7, e8, e9, e10, e11, e12, e13, e14, e15, e16]

/-- Everything claimed. -/
theorem claim : Cert.Claim :=
  ⟨Cert.Kernel.Gen.facts, Cert.KernelIdeal.Gen.facts, Cert.ReferenceIdeal.Gen.facts, Cert.Pre_weights_finite.Gen.facts,
    kernel_frame, ideal_frame, fun m g _ => ideal_frame m g trivial, reference_frame,
    fun m g _ => reference_frame m g trivial, named, value⟩

end Cert.Proof

end
